-- ==== Defs.lean ====
def Pre_KernelMixer (m : (ℓ : Loc Cert.KernelMixer.nD Cert.KernelMixer.τ Cert.KernelMixer.sig) → Buf (Elt Bits) ℓ) : Prop :=
  True

def Pre_KernelMixerIdeal (m : (ℓ : Loc Cert.KernelMixerIdeal.nD Cert.KernelMixerIdeal.τ Cert.KernelMixerIdeal.sig) → Buf (Elt Ideal) ℓ) : Prop :=
  True

def Pre_KernelNormed (m : (ℓ : Loc Cert.KernelNormed.nD Cert.KernelNormed.τ Cert.KernelNormed.sig) → Buf (Elt Bits) ℓ) : Prop :=
  True

def Pre_KernelNormedIdeal (m : (ℓ : Loc Cert.KernelNormedIdeal.nD Cert.KernelNormedIdeal.τ Cert.KernelNormedIdeal.sig) → Buf (Elt Ideal) ℓ) : Prop :=
  True

def Pre_ReferenceNormedIdeal (m : (ℓ : Loc Cert.ReferenceNormedIdeal.nD Cert.ReferenceNormedIdeal.τ Cert.ReferenceNormedIdeal.sig) → Buf (Elt Ideal) ℓ) : Prop :=
  True

def Pre_KernelPlain (m : (ℓ : Loc Cert.KernelPlain.nD Cert.KernelPlain.τ Cert.KernelPlain.sig) → Buf (Elt Bits) ℓ) : Prop :=
  True

def Pre_KernelPlainIdeal (m : (ℓ : Loc Cert.KernelPlainIdeal.nD Cert.KernelPlainIdeal.τ Cert.KernelPlainIdeal.sig) → Buf (Elt Ideal) ℓ) : Prop :=
  True

def Pre_ReferencePlainIdeal (m : (ℓ : Loc Cert.ReferencePlainIdeal.nD Cert.ReferencePlainIdeal.τ Cert.ReferencePlainIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelNext (m : (ℓ : Loc Cert.KernelNext.nD Cert.KernelNext.τ Cert.KernelNext.sig) → Buf (Elt Bits) ℓ) : Prop :=
  True

def Pre_KernelNextIdeal (m : (ℓ : Loc Cert.KernelNextIdeal.nD Cert.KernelNextIdeal.τ Cert.KernelNextIdeal.sig) → Buf (Elt Ideal) ℓ) : Prop :=
  True

def Pre_ReferenceNextIdeal (m : (ℓ : Loc Cert.ReferenceNextIdeal.nD Cert.ReferenceNextIdeal.τ Cert.ReferenceNextIdeal.sig) → Buf (Elt Ideal) ℓ) : Prop :=
  True

def Pre_KernelSeam (m : (ℓ : Loc Cert.KernelSeam.nD Cert.KernelSeam.τ Cert.KernelSeam.sig) → Buf (Elt Bits) ℓ) : Prop :=
  True

def Pre_KernelSeamIdeal (m : (ℓ : Loc Cert.KernelSeamIdeal.nD Cert.KernelSeamIdeal.τ Cert.KernelSeamIdeal.sig) → Buf (Elt Ideal) ℓ) : Prop :=
  True

def Pre_ReferenceSeamIdeal (m : (ℓ : Loc Cert.ReferenceSeamIdeal.nD Cert.ReferenceSeamIdeal.τ Cert.ReferenceSeamIdeal.sig) → Buf (Elt Ideal) ℓ) : Prop :=
  True

def quiescent_KernelMixer [hKernelMixer : Cert.KernelMixer.Facts] : Prop :=
  ∀ (m : (ℓ : Loc Cert.KernelMixer.nD Cert.KernelMixer.τ Cert.KernelMixer.sig) → Buf (Elt Bits) ℓ) (g : Dev Cert.KernelMixer.nD → PrngReg), Pre_KernelMixer m →
    θ_run (Cert.KernelMixer.defs (F := Bits)) (onTc (τ := Cert.KernelMixer.τ) (Cert.KernelMixer.main (F := Bits))) ⟨m, fun _ => 0, g⟩ (fun r => (∀ c : Dev Cert.KernelMixer.nD,
      r.2.mem ((c.tc : Thread Cert.KernelMixer.nD Cert.KernelMixer.τ).loc Cert.KernelMixer.main_arg0) = m ((c.tc : Thread Cert.KernelMixer.nD Cert.KernelMixer.τ).loc Cert.KernelMixer.main_arg0)
      ∧ r.2.mem ((c.tc : Thread Cert.KernelMixer.nD Cert.KernelMixer.τ).loc Cert.KernelMixer.main_arg1) = m ((c.tc : Thread Cert.KernelMixer.nD Cert.KernelMixer.τ).loc Cert.KernelMixer.main_arg1)
      ∧ r.2.mem ((c.tc : Thread Cert.KernelMixer.nD Cert.KernelMixer.τ).loc Cert.KernelMixer.main_arg2) = m ((c.tc : Thread Cert.KernelMixer.nD Cert.KernelMixer.τ).loc Cert.KernelMixer.main_arg2)
      ∧ r.2.mem ((c.tc : Thread Cert.KernelMixer.nD Cert.KernelMixer.τ).loc Cert.KernelMixer.main_arg3) = m ((c.tc : Thread Cert.KernelMixer.nD Cert.KernelMixer.τ).loc Cert.KernelMixer.main_arg3)
      ∧ r.2.mem ((c.tc : Thread Cert.KernelMixer.nD Cert.KernelMixer.τ).loc Cert.KernelMixer.main_arg4) = m ((c.tc : Thread Cert.KernelMixer.nD Cert.KernelMixer.τ).loc Cert.KernelMixer.main_arg4)
      ∧ r.2.mem ((c.tc : Thread Cert.KernelMixer.nD Cert.KernelMixer.τ).loc Cert.KernelMixer.main_arg5) = m ((c.tc : Thread Cert.KernelMixer.nD Cert.KernelMixer.τ).loc Cert.KernelMixer.main_arg5)
      ∧ r.2.mem ((c.tc : Thread Cert.KernelMixer.nD Cert.KernelMixer.τ).loc Cert.KernelMixer.main_arg6) = m ((c.tc : Thread Cert.KernelMixer.nD Cert.KernelMixer.τ).loc Cert.KernelMixer.main_arg6)
      ∧ r.2.mem ((c.tc : Thread Cert.KernelMixer.nD Cert.KernelMixer.τ).loc Cert.KernelMixer.main_arg7) = m ((c.tc : Thread Cert.KernelMixer.nD Cert.KernelMixer.τ).loc Cert.KernelMixer.main_arg7)
      ∧ r.2.mem ((c.tc : Thread Cert.KernelMixer.nD Cert.KernelMixer.τ).loc Cert.KernelMixer.main_arg8) = m ((c.tc : Thread Cert.KernelMixer.nD Cert.KernelMixer.τ).loc Cert.KernelMixer.main_arg8)
      ∧ r.2.mem ((c.tc : Thread Cert.KernelMixer.nD Cert.KernelMixer.τ).loc Cert.KernelMixer.main_arg9) = m ((c.tc : Thread Cert.KernelMixer.nD Cert.KernelMixer.τ).loc Cert.KernelMixer.main_arg9)
      ∧ r.2.mem ((c.tc : Thread Cert.KernelMixer.nD Cert.KernelMixer.τ).loc Cert.KernelMixer.main_arg10) = m ((c.tc : Thread Cert.KernelMixer.nD Cert.KernelMixer.τ).loc Cert.KernelMixer.main_arg10)
      ∧ r.2.mem ((c.tc : Thread Cert.KernelMixer.nD Cert.KernelMixer.τ).loc Cert.KernelMixer.main_arg11) = m ((c.tc : Thread Cert.KernelMixer.nD Cert.KernelMixer.τ).loc Cert.KernelMixer.main_arg11)
      ∧ r.2.mem ((c.tc : Thread Cert.KernelMixer.nD Cert.KernelMixer.τ).loc Cert.KernelMixer.main_arg12) = m ((c.tc : Thread Cert.KernelMixer.nD Cert.KernelMixer.τ).loc Cert.KernelMixer.main_arg12)
      ∧ r.2.mem ((c.tc : Thread Cert.KernelMixer.nD Cert.KernelMixer.τ).loc Cert.KernelMixer.main_arg13) = m ((c.tc : Thread Cert.KernelMixer.nD Cert.KernelMixer.τ).loc Cert.KernelMixer.main_arg13)
      ∧ r.2.mem ((c.tc : Thread Cert.KernelMixer.nD Cert.KernelMixer.τ).loc Cert.KernelMixer.main_arg14) = m ((c.tc : Thread Cert.KernelMixer.nD Cert.KernelMixer.τ).loc Cert.KernelMixer.main_arg14)
      ∧ r.2.mem ((c.tc : Thread Cert.KernelMixer.nD Cert.KernelMixer.τ).loc Cert.KernelMixer.main_arg15) = m ((c.tc : Thread Cert.KernelMixer.nD Cert.KernelMixer.τ).loc Cert.KernelMixer.main_arg15)
      ∧ r.2.mem ((c.tc : Thread Cert.KernelMixer.nD Cert.KernelMixer.τ).loc Cert.KernelMixer.main_arg16) = m ((c.tc : Thread Cert.KernelMixer.nD Cert.KernelMixer.τ).loc Cert.KernelMixer.main_arg16)
      ∧ r.2.mem ((c.tc : Thread Cert.KernelMixer.nD Cert.KernelMixer.τ).loc Cert.KernelMixer.main_arg17) = m ((c.tc : Thread Cert.KernelMixer.nD Cert.KernelMixer.τ).loc Cert.KernelMixer.main_arg17))
      ∧ r.2.sem = fun _ => 0)

def quiescent_KernelMixerIdeal [hKernelMixerIdeal : Cert.KernelMixerIdeal.Facts] : Prop :=
  ∀ (m : (ℓ : Loc Cert.KernelMixerIdeal.nD Cert.KernelMixerIdeal.τ Cert.KernelMixerIdeal.sig) → Buf (Elt Ideal) ℓ) (g : Dev Cert.KernelMixerIdeal.nD → PrngReg), Pre_KernelMixerIdeal m →
    θ_run (Cert.KernelMixerIdeal.defs (F := Ideal)) (onTc (τ := Cert.KernelMixerIdeal.τ) (Cert.KernelMixerIdeal.main (F := Ideal))) ⟨m, fun _ => 0, g⟩ (fun r => (∀ c : Dev Cert.KernelMixerIdeal.nD,
      r.2.mem ((c.tc : Thread Cert.KernelMixerIdeal.nD Cert.KernelMixerIdeal.τ).loc Cert.KernelMixerIdeal.main_arg0) = m ((c.tc : Thread Cert.KernelMixerIdeal.nD Cert.KernelMixerIdeal.τ).loc Cert.KernelMixerIdeal.main_arg0)
      ∧ r.2.mem ((c.tc : Thread Cert.KernelMixerIdeal.nD Cert.KernelMixerIdeal.τ).loc Cert.KernelMixerIdeal.main_arg1) = m ((c.tc : Thread Cert.KernelMixerIdeal.nD Cert.KernelMixerIdeal.τ).loc Cert.KernelMixerIdeal.main_arg1)
      ∧ r.2.mem ((c.tc : Thread Cert.KernelMixerIdeal.nD Cert.KernelMixerIdeal.τ).loc Cert.KernelMixerIdeal.main_arg2) = m ((c.tc : Thread Cert.KernelMixerIdeal.nD Cert.KernelMixerIdeal.τ).loc Cert.KernelMixerIdeal.main_arg2)
      ∧ r.2.mem ((c.tc : Thread Cert.KernelMixerIdeal.nD Cert.KernelMixerIdeal.τ).loc Cert.KernelMixerIdeal.main_arg3) = m ((c.tc : Thread Cert.KernelMixerIdeal.nD Cert.KernelMixerIdeal.τ).loc Cert.KernelMixerIdeal.main_arg3)
      ∧ r.2.mem ((c.tc : Thread Cert.KernelMixerIdeal.nD Cert.KernelMixerIdeal.τ).loc Cert.KernelMixerIdeal.main_arg4) = m ((c.tc : Thread Cert.KernelMixerIdeal.nD Cert.KernelMixerIdeal.τ).loc Cert.KernelMixerIdeal.main_arg4)
      ∧ r.2.mem ((c.tc : Thread Cert.KernelMixerIdeal.nD Cert.KernelMixerIdeal.τ).loc Cert.KernelMixerIdeal.main_arg5) = m ((c.tc : Thread Cert.KernelMixerIdeal.nD Cert.KernelMixerIdeal.τ).loc Cert.KernelMixerIdeal.main_arg5)
      ∧ r.2.mem ((c.tc : Thread Cert.KernelMixerIdeal.nD Cert.KernelMixerIdeal.τ).loc Cert.KernelMixerIdeal.main_arg6) = m ((c.tc : Thread Cert.KernelMixerIdeal.nD Cert.KernelMixerIdeal.τ).loc Cert.KernelMixerIdeal.main_arg6)
      ∧ r.2.mem ((c.tc : Thread Cert.KernelMixerIdeal.nD Cert.KernelMixerIdeal.τ).loc Cert.KernelMixerIdeal.main_arg7) = m ((c.tc : Thread Cert.KernelMixerIdeal.nD Cert.KernelMixerIdeal.τ).loc Cert.KernelMixerIdeal.main_arg7)
      ∧ r.2.mem ((c.tc : Thread Cert.KernelMixerIdeal.nD Cert.KernelMixerIdeal.τ).loc Cert.KernelMixerIdeal.main_arg8) = m ((c.tc : Thread Cert.KernelMixerIdeal.nD Cert.KernelMixerIdeal.τ).loc Cert.KernelMixerIdeal.main_arg8)
      ∧ r.2.mem ((c.tc : Thread Cert.KernelMixerIdeal.nD Cert.KernelMixerIdeal.τ).loc Cert.KernelMixerIdeal.main_arg9) = m ((c.tc : Thread Cert.KernelMixerIdeal.nD Cert.KernelMixerIdeal.τ).loc Cert.KernelMixerIdeal.main_arg9)
      ∧ r.2.mem ((c.tc : Thread Cert.KernelMixerIdeal.nD Cert.KernelMixerIdeal.τ).loc Cert.KernelMixerIdeal.main_arg10) = m ((c.tc : Thread Cert.KernelMixerIdeal.nD Cert.KernelMixerIdeal.τ).loc Cert.KernelMixerIdeal.main_arg10)
      ∧ r.2.mem ((c.tc : Thread Cert.KernelMixerIdeal.nD Cert.KernelMixerIdeal.τ).loc Cert.KernelMixerIdeal.main_arg11) = m ((c.tc : Thread Cert.KernelMixerIdeal.nD Cert.KernelMixerIdeal.τ).loc Cert.KernelMixerIdeal.main_arg11)
      ∧ r.2.mem ((c.tc : Thread Cert.KernelMixerIdeal.nD Cert.KernelMixerIdeal.τ).loc Cert.KernelMixerIdeal.main_arg12) = m ((c.tc : Thread Cert.KernelMixerIdeal.nD Cert.KernelMixerIdeal.τ).loc Cert.KernelMixerIdeal.main_arg12)
      ∧ r.2.mem ((c.tc : Thread Cert.KernelMixerIdeal.nD Cert.KernelMixerIdeal.τ).loc Cert.KernelMixerIdeal.main_arg13) = m ((c.tc : Thread Cert.KernelMixerIdeal.nD Cert.KernelMixerIdeal.τ).loc Cert.KernelMixerIdeal.main_arg13)
      ∧ r.2.mem ((c.tc : Thread Cert.KernelMixerIdeal.nD Cert.KernelMixerIdeal.τ).loc Cert.KernelMixerIdeal.main_arg14) = m ((c.tc : Thread Cert.KernelMixerIdeal.nD Cert.KernelMixerIdeal.τ).loc Cert.KernelMixerIdeal.main_arg14)
      ∧ r.2.mem ((c.tc : Thread Cert.KernelMixerIdeal.nD Cert.KernelMixerIdeal.τ).loc Cert.KernelMixerIdeal.main_arg15) = m ((c.tc : Thread Cert.KernelMixerIdeal.nD Cert.KernelMixerIdeal.τ).loc Cert.KernelMixerIdeal.main_arg15)
      ∧ r.2.mem ((c.tc : Thread Cert.KernelMixerIdeal.nD Cert.KernelMixerIdeal.τ).loc Cert.KernelMixerIdeal.main_arg16) = m ((c.tc : Thread Cert.KernelMixerIdeal.nD Cert.KernelMixerIdeal.τ).loc Cert.KernelMixerIdeal.main_arg16)
      ∧ r.2.mem ((c.tc : Thread Cert.KernelMixerIdeal.nD Cert.KernelMixerIdeal.τ).loc Cert.KernelMixerIdeal.main_arg17) = m ((c.tc : Thread Cert.KernelMixerIdeal.nD Cert.KernelMixerIdeal.τ).loc Cert.KernelMixerIdeal.main_arg17))
      ∧ r.2.sem = fun _ => 0)

def quiescent_KernelNormed [hKernelNormed : Cert.KernelNormed.Facts] : Prop :=
  ∀ (m : (ℓ : Loc Cert.KernelNormed.nD Cert.KernelNormed.τ Cert.KernelNormed.sig) → Buf (Elt Bits) ℓ) (g : Dev Cert.KernelNormed.nD → PrngReg), Pre_KernelNormed m →
    θ_run (Cert.KernelNormed.defs (F := Bits)) (onTc (τ := Cert.KernelNormed.τ) (Cert.KernelNormed.main (F := Bits))) ⟨m, fun _ => 0, g⟩ (fun r => (∀ c : Dev Cert.KernelNormed.nD,
      r.2.mem ((c.tc : Thread Cert.KernelNormed.nD Cert.KernelNormed.τ).loc Cert.KernelNormed.main_arg0) = m ((c.tc : Thread Cert.KernelNormed.nD Cert.KernelNormed.τ).loc Cert.KernelNormed.main_arg0)
      ∧ r.2.mem ((c.tc : Thread Cert.KernelNormed.nD Cert.KernelNormed.τ).loc Cert.KernelNormed.main_arg1) = m ((c.tc : Thread Cert.KernelNormed.nD Cert.KernelNormed.τ).loc Cert.KernelNormed.main_arg1)
      ∧ r.2.mem ((c.tc : Thread Cert.KernelNormed.nD Cert.KernelNormed.τ).loc Cert.KernelNormed.main_arg2) = m ((c.tc : Thread Cert.KernelNormed.nD Cert.KernelNormed.τ).loc Cert.KernelNormed.main_arg2)
      ∧ r.2.mem ((c.tc : Thread Cert.KernelNormed.nD Cert.KernelNormed.τ).loc Cert.KernelNormed.main_arg3) = m ((c.tc : Thread Cert.KernelNormed.nD Cert.KernelNormed.τ).loc Cert.KernelNormed.main_arg3)
      ∧ r.2.mem ((c.tc : Thread Cert.KernelNormed.nD Cert.KernelNormed.τ).loc Cert.KernelNormed.main_arg4) = m ((c.tc : Thread Cert.KernelNormed.nD Cert.KernelNormed.τ).loc Cert.KernelNormed.main_arg4)
      ∧ r.2.mem ((c.tc : Thread Cert.KernelNormed.nD Cert.KernelNormed.τ).loc Cert.KernelNormed.main_arg5) = m ((c.tc : Thread Cert.KernelNormed.nD Cert.KernelNormed.τ).loc Cert.KernelNormed.main_arg5))
      ∧ r.2.sem = fun _ => 0)

def quiescent_KernelNormedIdeal [hKernelNormedIdeal : Cert.KernelNormedIdeal.Facts] : Prop :=
  ∀ (m : (ℓ : Loc Cert.KernelNormedIdeal.nD Cert.KernelNormedIdeal.τ Cert.KernelNormedIdeal.sig) → Buf (Elt Ideal) ℓ) (g : Dev Cert.KernelNormedIdeal.nD → PrngReg), Pre_KernelNormedIdeal m →
    θ_run (Cert.KernelNormedIdeal.defs (F := Ideal)) (onTc (τ := Cert.KernelNormedIdeal.τ) (Cert.KernelNormedIdeal.main (F := Ideal))) ⟨m, fun _ => 0, g⟩ (fun r => (∀ c : Dev Cert.KernelNormedIdeal.nD,
      r.2.mem ((c.tc : Thread Cert.KernelNormedIdeal.nD Cert.KernelNormedIdeal.τ).loc Cert.KernelNormedIdeal.main_arg0) = m ((c.tc : Thread Cert.KernelNormedIdeal.nD Cert.KernelNormedIdeal.τ).loc Cert.KernelNormedIdeal.main_arg0)
      ∧ r.2.mem ((c.tc : Thread Cert.KernelNormedIdeal.nD Cert.KernelNormedIdeal.τ).loc Cert.KernelNormedIdeal.main_arg1) = m ((c.tc : Thread Cert.KernelNormedIdeal.nD Cert.KernelNormedIdeal.τ).loc Cert.KernelNormedIdeal.main_arg1)
      ∧ r.2.mem ((c.tc : Thread Cert.KernelNormedIdeal.nD Cert.KernelNormedIdeal.τ).loc Cert.KernelNormedIdeal.main_arg2) = m ((c.tc : Thread Cert.KernelNormedIdeal.nD Cert.KernelNormedIdeal.τ).loc Cert.KernelNormedIdeal.main_arg2)
      ∧ r.2.mem ((c.tc : Thread Cert.KernelNormedIdeal.nD Cert.KernelNormedIdeal.τ).loc Cert.KernelNormedIdeal.main_arg3) = m ((c.tc : Thread Cert.KernelNormedIdeal.nD Cert.KernelNormedIdeal.τ).loc Cert.KernelNormedIdeal.main_arg3)
      ∧ r.2.mem ((c.tc : Thread Cert.KernelNormedIdeal.nD Cert.KernelNormedIdeal.τ).loc Cert.KernelNormedIdeal.main_arg4) = m ((c.tc : Thread Cert.KernelNormedIdeal.nD Cert.KernelNormedIdeal.τ).loc Cert.KernelNormedIdeal.main_arg4)
      ∧ r.2.mem ((c.tc : Thread Cert.KernelNormedIdeal.nD Cert.KernelNormedIdeal.τ).loc Cert.KernelNormedIdeal.main_arg5) = m ((c.tc : Thread Cert.KernelNormedIdeal.nD Cert.KernelNormedIdeal.τ).loc Cert.KernelNormedIdeal.main_arg5))
      ∧ r.2.sem = fun _ => 0)

def quiescent_ReferenceNormedIdeal [hReferenceNormedIdeal : Cert.ReferenceNormedIdeal.Facts] : Prop :=
  ∀ (m : (ℓ : Loc Cert.ReferenceNormedIdeal.nD Cert.ReferenceNormedIdeal.τ Cert.ReferenceNormedIdeal.sig) → Buf (Elt Ideal) ℓ) (g : Dev Cert.ReferenceNormedIdeal.nD → PrngReg), Pre_ReferenceNormedIdeal m →
    θ_run (Cert.ReferenceNormedIdeal.defs (F := Ideal)) (onTc (τ := Cert.ReferenceNormedIdeal.τ) (Cert.ReferenceNormedIdeal.main (F := Ideal))) ⟨m, fun _ => 0, g⟩ (fun r => (∀ c : Dev Cert.ReferenceNormedIdeal.nD,
      r.2.mem ((c.tc : Thread Cert.ReferenceNormedIdeal.nD Cert.ReferenceNormedIdeal.τ).loc Cert.ReferenceNormedIdeal.main_arg0) = m ((c.tc : Thread Cert.ReferenceNormedIdeal.nD Cert.ReferenceNormedIdeal.τ).loc Cert.ReferenceNormedIdeal.main_arg0)
      ∧ r.2.mem ((c.tc : Thread Cert.ReferenceNormedIdeal.nD Cert.ReferenceNormedIdeal.τ).loc Cert.ReferenceNormedIdeal.main_arg1) = m ((c.tc : Thread Cert.ReferenceNormedIdeal.nD Cert.ReferenceNormedIdeal.τ).loc Cert.ReferenceNormedIdeal.main_arg1)
      ∧ r.2.mem ((c.tc : Thread Cert.ReferenceNormedIdeal.nD Cert.ReferenceNormedIdeal.τ).loc Cert.ReferenceNormedIdeal.main_arg2) = m ((c.tc : Thread Cert.ReferenceNormedIdeal.nD Cert.ReferenceNormedIdeal.τ).loc Cert.ReferenceNormedIdeal.main_arg2)
      ∧ r.2.mem ((c.tc : Thread Cert.ReferenceNormedIdeal.nD Cert.ReferenceNormedIdeal.τ).loc Cert.ReferenceNormedIdeal.main_arg3) = m ((c.tc : Thread Cert.ReferenceNormedIdeal.nD Cert.ReferenceNormedIdeal.τ).loc Cert.ReferenceNormedIdeal.main_arg3)
      ∧ r.2.mem ((c.tc : Thread Cert.ReferenceNormedIdeal.nD Cert.ReferenceNormedIdeal.τ).loc Cert.ReferenceNormedIdeal.main_arg4) = m ((c.tc : Thread Cert.ReferenceNormedIdeal.nD Cert.ReferenceNormedIdeal.τ).loc Cert.ReferenceNormedIdeal.main_arg4)
      ∧ r.2.mem ((c.tc : Thread Cert.ReferenceNormedIdeal.nD Cert.ReferenceNormedIdeal.τ).loc Cert.ReferenceNormedIdeal.main_arg5) = m ((c.tc : Thread Cert.ReferenceNormedIdeal.nD Cert.ReferenceNormedIdeal.τ).loc Cert.ReferenceNormedIdeal.main_arg5))
      ∧ r.2.sem = fun _ => 0)

def quiescent_KernelPlain [hKernelPlain : Cert.KernelPlain.Facts] : Prop :=
  ∀ (m : (ℓ : Loc Cert.KernelPlain.nD Cert.KernelPlain.τ Cert.KernelPlain.sig) → Buf (Elt Bits) ℓ) (g : Dev Cert.KernelPlain.nD → PrngReg), Pre_KernelPlain m →
    θ_run (Cert.KernelPlain.defs (F := Bits)) (onTc (τ := Cert.KernelPlain.τ) (Cert.KernelPlain.main (F := Bits))) ⟨m, fun _ => 0, g⟩ (fun r => (∀ c : Dev Cert.KernelPlain.nD,
      r.2.mem ((c.tc : Thread Cert.KernelPlain.nD Cert.KernelPlain.τ).loc Cert.KernelPlain.main_arg0) = m ((c.tc : Thread Cert.KernelPlain.nD Cert.KernelPlain.τ).loc Cert.KernelPlain.main_arg0)
      ∧ r.2.mem ((c.tc : Thread Cert.KernelPlain.nD Cert.KernelPlain.τ).loc Cert.KernelPlain.main_arg1) = m ((c.tc : Thread Cert.KernelPlain.nD Cert.KernelPlain.τ).loc Cert.KernelPlain.main_arg1)
      ∧ r.2.mem ((c.tc : Thread Cert.KernelPlain.nD Cert.KernelPlain.τ).loc Cert.KernelPlain.main_arg2) = m ((c.tc : Thread Cert.KernelPlain.nD Cert.KernelPlain.τ).loc Cert.KernelPlain.main_arg2)
      ∧ r.2.mem ((c.tc : Thread Cert.KernelPlain.nD Cert.KernelPlain.τ).loc Cert.KernelPlain.main_arg3) = m ((c.tc : Thread Cert.KernelPlain.nD Cert.KernelPlain.τ).loc Cert.KernelPlain.main_arg3)
      ∧ r.2.mem ((c.tc : Thread Cert.KernelPlain.nD Cert.KernelPlain.τ).loc Cert.KernelPlain.main_arg4) = m ((c.tc : Thread Cert.KernelPlain.nD Cert.KernelPlain.τ).loc Cert.KernelPlain.main_arg4)
      ∧ r.2.mem ((c.tc : Thread Cert.KernelPlain.nD Cert.KernelPlain.τ).loc Cert.KernelPlain.main_arg5) = m ((c.tc : Thread Cert.KernelPlain.nD Cert.KernelPlain.τ).loc Cert.KernelPlain.main_arg5))
      ∧ r.2.sem = fun _ => 0)

def quiescent_KernelPlainIdeal [hKernelPlainIdeal : Cert.KernelPlainIdeal.Facts] : Prop :=
  ∀ (m : (ℓ : Loc Cert.KernelPlainIdeal.nD Cert.KernelPlainIdeal.τ Cert.KernelPlainIdeal.sig) → Buf (Elt Ideal) ℓ) (g : Dev Cert.KernelPlainIdeal.nD → PrngReg), Pre_KernelPlainIdeal m →
    θ_run (Cert.KernelPlainIdeal.defs (F := Ideal)) (onTc (τ := Cert.KernelPlainIdeal.τ) (Cert.KernelPlainIdeal.main (F := Ideal))) ⟨m, fun _ => 0, g⟩ (fun r => (∀ c : Dev Cert.KernelPlainIdeal.nD,
      r.2.mem ((c.tc : Thread Cert.KernelPlainIdeal.nD Cert.KernelPlainIdeal.τ).loc Cert.KernelPlainIdeal.main_arg0) = m ((c.tc : Thread Cert.KernelPlainIdeal.nD Cert.KernelPlainIdeal.τ).loc Cert.KernelPlainIdeal.main_arg0)
      ∧ r.2.mem ((c.tc : Thread Cert.KernelPlainIdeal.nD Cert.KernelPlainIdeal.τ).loc Cert.KernelPlainIdeal.main_arg1) = m ((c.tc : Thread Cert.KernelPlainIdeal.nD Cert.KernelPlainIdeal.τ).loc Cert.KernelPlainIdeal.main_arg1)
      ∧ r.2.mem ((c.tc : Thread Cert.KernelPlainIdeal.nD Cert.KernelPlainIdeal.τ).loc Cert.KernelPlainIdeal.main_arg2) = m ((c.tc : Thread Cert.KernelPlainIdeal.nD Cert.KernelPlainIdeal.τ).loc Cert.KernelPlainIdeal.main_arg2)
      ∧ r.2.mem ((c.tc : Thread Cert.KernelPlainIdeal.nD Cert.KernelPlainIdeal.τ).loc Cert.KernelPlainIdeal.main_arg3) = m ((c.tc : Thread Cert.KernelPlainIdeal.nD Cert.KernelPlainIdeal.τ).loc Cert.KernelPlainIdeal.main_arg3)
      ∧ r.2.mem ((c.tc : Thread Cert.KernelPlainIdeal.nD Cert.KernelPlainIdeal.τ).loc Cert.KernelPlainIdeal.main_arg4) = m ((c.tc : Thread Cert.KernelPlainIdeal.nD Cert.KernelPlainIdeal.τ).loc Cert.KernelPlainIdeal.main_arg4)
      ∧ r.2.mem ((c.tc : Thread Cert.KernelPlainIdeal.nD Cert.KernelPlainIdeal.τ).loc Cert.KernelPlainIdeal.main_arg5) = m ((c.tc : Thread Cert.KernelPlainIdeal.nD Cert.KernelPlainIdeal.τ).loc Cert.KernelPlainIdeal.main_arg5))
      ∧ r.2.sem = fun _ => 0)

def quiescent_ReferencePlainIdeal [hReferencePlainIdeal : Cert.ReferencePlainIdeal.Facts] : Prop :=
  ∀ (m : (ℓ : Loc Cert.ReferencePlainIdeal.nD Cert.ReferencePlainIdeal.τ Cert.ReferencePlainIdeal.sig) → Buf (Elt Ideal) ℓ) (g : Dev Cert.ReferencePlainIdeal.nD → PrngReg), Pre_ReferencePlainIdeal m →
    θ_run (Cert.ReferencePlainIdeal.defs (F := Ideal)) (onTc (τ := Cert.ReferencePlainIdeal.τ) (Cert.ReferencePlainIdeal.main (F := Ideal))) ⟨m, fun _ => 0, g⟩ (fun r => (∀ c : Dev Cert.ReferencePlainIdeal.nD,
      r.2.mem ((c.tc : Thread Cert.ReferencePlainIdeal.nD Cert.ReferencePlainIdeal.τ).loc Cert.ReferencePlainIdeal.main_arg0) = m ((c.tc : Thread Cert.ReferencePlainIdeal.nD Cert.ReferencePlainIdeal.τ).loc Cert.ReferencePlainIdeal.main_arg0)
      ∧ r.2.mem ((c.tc : Thread Cert.ReferencePlainIdeal.nD Cert.ReferencePlainIdeal.τ).loc Cert.ReferencePlainIdeal.main_arg1) = m ((c.tc : Thread Cert.ReferencePlainIdeal.nD Cert.ReferencePlainIdeal.τ).loc Cert.ReferencePlainIdeal.main_arg1)
      ∧ r.2.mem ((c.tc : Thread Cert.ReferencePlainIdeal.nD Cert.ReferencePlainIdeal.τ).loc Cert.ReferencePlainIdeal.main_arg2) = m ((c.tc : Thread Cert.ReferencePlainIdeal.nD Cert.ReferencePlainIdeal.τ).loc Cert.ReferencePlainIdeal.main_arg2)
      ∧ r.2.mem ((c.tc : Thread Cert.ReferencePlainIdeal.nD Cert.ReferencePlainIdeal.τ).loc Cert.ReferencePlainIdeal.main_arg3) = m ((c.tc : Thread Cert.ReferencePlainIdeal.nD Cert.ReferencePlainIdeal.τ).loc Cert.ReferencePlainIdeal.main_arg3)
      ∧ r.2.mem ((c.tc : Thread Cert.ReferencePlainIdeal.nD Cert.ReferencePlainIdeal.τ).loc Cert.ReferencePlainIdeal.main_arg4) = m ((c.tc : Thread Cert.ReferencePlainIdeal.nD Cert.ReferencePlainIdeal.τ).loc Cert.ReferencePlainIdeal.main_arg4)
      ∧ r.2.mem ((c.tc : Thread Cert.ReferencePlainIdeal.nD Cert.ReferencePlainIdeal.τ).loc Cert.ReferencePlainIdeal.main_arg5) = m ((c.tc : Thread Cert.ReferencePlainIdeal.nD Cert.ReferencePlainIdeal.τ).loc Cert.ReferencePlainIdeal.main_arg5))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2)
      ∧ r.2.mem ((c.tc : Thread Cert.KernelFinal.nD Cert.KernelFinal.τ).loc Cert.KernelFinal.main_arg3) = m ((c.tc : Thread Cert.KernelFinal.nD Cert.KernelFinal.τ).loc Cert.KernelFinal.main_arg3)
      ∧ r.2.mem ((c.tc : Thread Cert.KernelFinal.nD Cert.KernelFinal.τ).loc Cert.KernelFinal.main_arg4) = m ((c.tc : Thread Cert.KernelFinal.nD Cert.KernelFinal.τ).loc Cert.KernelFinal.main_arg4)
      ∧ r.2.mem ((c.tc : Thread Cert.KernelFinal.nD Cert.KernelFinal.τ).loc Cert.KernelFinal.main_arg5) = m ((c.tc : Thread Cert.KernelFinal.nD Cert.KernelFinal.τ).loc Cert.KernelFinal.main_arg5))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
      ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5))
      ∧ r.2.sem = fun _ => 0)

def quiescent_KernelNext [hKernelNext : Cert.KernelNext.Facts] : Prop :=
  ∀ (m : (ℓ : Loc Cert.KernelNext.nD Cert.KernelNext.τ Cert.KernelNext.sig) → Buf (Elt Bits) ℓ) (g : Dev Cert.KernelNext.nD → PrngReg), Pre_KernelNext m →
    θ_run (Cert.KernelNext.defs (F := Bits)) (onTc (τ := Cert.KernelNext.τ) (Cert.KernelNext.main (F := Bits))) ⟨m, fun _ => 0, g⟩ (fun r => (∀ c : Dev Cert.KernelNext.nD,
      r.2.mem ((c.tc : Thread Cert.KernelNext.nD Cert.KernelNext.τ).loc Cert.KernelNext.main_arg0) = m ((c.tc : Thread Cert.KernelNext.nD Cert.KernelNext.τ).loc Cert.KernelNext.main_arg0)
      ∧ r.2.mem ((c.tc : Thread Cert.KernelNext.nD Cert.KernelNext.τ).loc Cert.KernelNext.main_arg1) = m ((c.tc : Thread Cert.KernelNext.nD Cert.KernelNext.τ).loc Cert.KernelNext.main_arg1)
      ∧ r.2.mem ((c.tc : Thread Cert.KernelNext.nD Cert.KernelNext.τ).loc Cert.KernelNext.main_arg2) = m ((c.tc : Thread Cert.KernelNext.nD Cert.KernelNext.τ).loc Cert.KernelNext.main_arg2)
      ∧ r.2.mem ((c.tc : Thread Cert.KernelNext.nD Cert.KernelNext.τ).loc Cert.KernelNext.main_arg3) = m ((c.tc : Thread Cert.KernelNext.nD Cert.KernelNext.τ).loc Cert.KernelNext.main_arg3)
      ∧ r.2.mem ((c.tc : Thread Cert.KernelNext.nD Cert.KernelNext.τ).loc Cert.KernelNext.main_arg4) = m ((c.tc : Thread Cert.KernelNext.nD Cert.KernelNext.τ).loc Cert.KernelNext.main_arg4)
      ∧ r.2.mem ((c.tc : Thread Cert.KernelNext.nD Cert.KernelNext.τ).loc Cert.KernelNext.main_arg5) = m ((c.tc : Thread Cert.KernelNext.nD Cert.KernelNext.τ).loc Cert.KernelNext.main_arg5))
      ∧ r.2.sem = fun _ => 0)

def quiescent_KernelNextIdeal [hKernelNextIdeal : Cert.KernelNextIdeal.Facts] : Prop :=
  ∀ (m : (ℓ : Loc Cert.KernelNextIdeal.nD Cert.KernelNextIdeal.τ Cert.KernelNextIdeal.sig) → Buf (Elt Ideal) ℓ) (g : Dev Cert.KernelNextIdeal.nD → PrngReg), Pre_KernelNextIdeal m →
    θ_run (Cert.KernelNextIdeal.defs (F := Ideal)) (onTc (τ := Cert.KernelNextIdeal.τ) (Cert.KernelNextIdeal.main (F := Ideal))) ⟨m, fun _ => 0, g⟩ (fun r => (∀ c : Dev Cert.KernelNextIdeal.nD,
      r.2.mem ((c.tc : Thread Cert.KernelNextIdeal.nD Cert.KernelNextIdeal.τ).loc Cert.KernelNextIdeal.main_arg0) = m ((c.tc : Thread Cert.KernelNextIdeal.nD Cert.KernelNextIdeal.τ).loc Cert.KernelNextIdeal.main_arg0)
      ∧ r.2.mem ((c.tc : Thread Cert.KernelNextIdeal.nD Cert.KernelNextIdeal.τ).loc Cert.KernelNextIdeal.main_arg1) = m ((c.tc : Thread Cert.KernelNextIdeal.nD Cert.KernelNextIdeal.τ).loc Cert.KernelNextIdeal.main_arg1)
      ∧ r.2.mem ((c.tc : Thread Cert.KernelNextIdeal.nD Cert.KernelNextIdeal.τ).loc Cert.KernelNextIdeal.main_arg2) = m ((c.tc : Thread Cert.KernelNextIdeal.nD Cert.KernelNextIdeal.τ).loc Cert.KernelNextIdeal.main_arg2)
      ∧ r.2.mem ((c.tc : Thread Cert.KernelNextIdeal.nD Cert.KernelNextIdeal.τ).loc Cert.KernelNextIdeal.main_arg3) = m ((c.tc : Thread Cert.KernelNextIdeal.nD Cert.KernelNextIdeal.τ).loc Cert.KernelNextIdeal.main_arg3)
      ∧ r.2.mem ((c.tc : Thread Cert.KernelNextIdeal.nD Cert.KernelNextIdeal.τ).loc Cert.KernelNextIdeal.main_arg4) = m ((c.tc : Thread Cert.KernelNextIdeal.nD Cert.KernelNextIdeal.τ).loc Cert.KernelNextIdeal.main_arg4)
      ∧ r.2.mem ((c.tc : Thread Cert.KernelNextIdeal.nD Cert.KernelNextIdeal.τ).loc Cert.KernelNextIdeal.main_arg5) = m ((c.tc : Thread Cert.KernelNextIdeal.nD Cert.KernelNextIdeal.τ).loc Cert.KernelNextIdeal.main_arg5))
      ∧ r.2.sem = fun _ => 0)

def quiescent_ReferenceNextIdeal [hReferenceNextIdeal : Cert.ReferenceNextIdeal.Facts] : Prop :=
  ∀ (m : (ℓ : Loc Cert.ReferenceNextIdeal.nD Cert.ReferenceNextIdeal.τ Cert.ReferenceNextIdeal.sig) → Buf (Elt Ideal) ℓ) (g : Dev Cert.ReferenceNextIdeal.nD → PrngReg), Pre_ReferenceNextIdeal m →
    θ_run (Cert.ReferenceNextIdeal.defs (F := Ideal)) (onTc (τ := Cert.ReferenceNextIdeal.τ) (Cert.ReferenceNextIdeal.main (F := Ideal))) ⟨m, fun _ => 0, g⟩ (fun r => (∀ c : Dev Cert.ReferenceNextIdeal.nD,
      r.2.mem ((c.tc : Thread Cert.ReferenceNextIdeal.nD Cert.ReferenceNextIdeal.τ).loc Cert.ReferenceNextIdeal.main_arg0) = m ((c.tc : Thread Cert.ReferenceNextIdeal.nD Cert.ReferenceNextIdeal.τ).loc Cert.ReferenceNextIdeal.main_arg0)
      ∧ r.2.mem ((c.tc : Thread Cert.ReferenceNextIdeal.nD Cert.ReferenceNextIdeal.τ).loc Cert.ReferenceNextIdeal.main_arg1) = m ((c.tc : Thread Cert.ReferenceNextIdeal.nD Cert.ReferenceNextIdeal.τ).loc Cert.ReferenceNextIdeal.main_arg1)
      ∧ r.2.mem ((c.tc : Thread Cert.ReferenceNextIdeal.nD Cert.ReferenceNextIdeal.τ).loc Cert.ReferenceNextIdeal.main_arg2) = m ((c.tc : Thread Cert.ReferenceNextIdeal.nD Cert.ReferenceNextIdeal.τ).loc Cert.ReferenceNextIdeal.main_arg2)
      ∧ r.2.mem ((c.tc : Thread Cert.ReferenceNextIdeal.nD Cert.ReferenceNextIdeal.τ).loc Cert.ReferenceNextIdeal.main_arg3) = m ((c.tc : Thread Cert.ReferenceNextIdeal.nD Cert.ReferenceNextIdeal.τ).loc Cert.ReferenceNextIdeal.main_arg3)
      ∧ r.2.mem ((c.tc : Thread Cert.ReferenceNextIdeal.nD Cert.ReferenceNextIdeal.τ).loc Cert.ReferenceNextIdeal.main_arg4) = m ((c.tc : Thread Cert.ReferenceNextIdeal.nD Cert.ReferenceNextIdeal.τ).loc Cert.ReferenceNextIdeal.main_arg4)
      ∧ r.2.mem ((c.tc : Thread Cert.ReferenceNextIdeal.nD Cert.ReferenceNextIdeal.τ).loc Cert.ReferenceNextIdeal.main_arg5) = m ((c.tc : Thread Cert.ReferenceNextIdeal.nD Cert.ReferenceNextIdeal.τ).loc Cert.ReferenceNextIdeal.main_arg5))
      ∧ r.2.sem = fun _ => 0)

def quiescent_KernelSeam [hKernelSeam : Cert.KernelSeam.Facts] : Prop :=
  ∀ (m : (ℓ : Loc Cert.KernelSeam.nD Cert.KernelSeam.τ Cert.KernelSeam.sig) → Buf (Elt Bits) ℓ) (g : Dev Cert.KernelSeam.nD → PrngReg), Pre_KernelSeam m →
    θ_run (Cert.KernelSeam.defs (F := Bits)) (onTc (τ := Cert.KernelSeam.τ) (Cert.KernelSeam.main (F := Bits))) ⟨m, fun _ => 0, g⟩ (fun r => (∀ c : Dev Cert.KernelSeam.nD,
      r.2.mem ((c.tc : Thread Cert.KernelSeam.nD Cert.KernelSeam.τ).loc Cert.KernelSeam.main_arg0) = m ((c.tc : Thread Cert.KernelSeam.nD Cert.KernelSeam.τ).loc Cert.KernelSeam.main_arg0)
      ∧ r.2.mem ((c.tc : Thread Cert.KernelSeam.nD Cert.KernelSeam.τ).loc Cert.KernelSeam.main_arg1) = m ((c.tc : Thread Cert.KernelSeam.nD Cert.KernelSeam.τ).loc Cert.KernelSeam.main_arg1)
      ∧ r.2.mem ((c.tc : Thread Cert.KernelSeam.nD Cert.KernelSeam.τ).loc Cert.KernelSeam.main_arg2) = m ((c.tc : Thread Cert.KernelSeam.nD Cert.KernelSeam.τ).loc Cert.KernelSeam.main_arg2)
      ∧ r.2.mem ((c.tc : Thread Cert.KernelSeam.nD Cert.KernelSeam.τ).loc Cert.KernelSeam.main_arg3) = m ((c.tc : Thread Cert.KernelSeam.nD Cert.KernelSeam.τ).loc Cert.KernelSeam.main_arg3)
      ∧ r.2.mem ((c.tc : Thread Cert.KernelSeam.nD Cert.KernelSeam.τ).loc Cert.KernelSeam.main_arg4) = m ((c.tc : Thread Cert.KernelSeam.nD Cert.KernelSeam.τ).loc Cert.KernelSeam.main_arg4)
      ∧ r.2.mem ((c.tc : Thread Cert.KernelSeam.nD Cert.KernelSeam.τ).loc Cert.KernelSeam.main_arg5) = m ((c.tc : Thread Cert.KernelSeam.nD Cert.KernelSeam.τ).loc Cert.KernelSeam.main_arg5)
      ∧ r.2.mem ((c.tc : Thread Cert.KernelSeam.nD Cert.KernelSeam.τ).loc Cert.KernelSeam.main_arg6) = m ((c.tc : Thread Cert.KernelSeam.nD Cert.KernelSeam.τ).loc Cert.KernelSeam.main_arg6)
      ∧ r.2.mem ((c.tc : Thread Cert.KernelSeam.nD Cert.KernelSeam.τ).loc Cert.KernelSeam.main_arg7) = m ((c.tc : Thread Cert.KernelSeam.nD Cert.KernelSeam.τ).loc Cert.KernelSeam.main_arg7)
      ∧ r.2.mem ((c.tc : Thread Cert.KernelSeam.nD Cert.KernelSeam.τ).loc Cert.KernelSeam.main_arg8) = m ((c.tc : Thread Cert.KernelSeam.nD Cert.KernelSeam.τ).loc Cert.KernelSeam.main_arg8)
      ∧ r.2.mem ((c.tc : Thread Cert.KernelSeam.nD Cert.KernelSeam.τ).loc Cert.KernelSeam.main_arg9) = m ((c.tc : Thread Cert.KernelSeam.nD Cert.KernelSeam.τ).loc Cert.KernelSeam.main_arg9)
      ∧ r.2.mem ((c.tc : Thread Cert.KernelSeam.nD Cert.KernelSeam.τ).loc Cert.KernelSeam.main_arg10) = m ((c.tc : Thread Cert.KernelSeam.nD Cert.KernelSeam.τ).loc Cert.KernelSeam.main_arg10))
      ∧ r.2.sem = fun _ => 0)

def quiescent_KernelSeamIdeal [hKernelSeamIdeal : Cert.KernelSeamIdeal.Facts] : Prop :=
  ∀ (m : (ℓ : Loc Cert.KernelSeamIdeal.nD Cert.KernelSeamIdeal.τ Cert.KernelSeamIdeal.sig) → Buf (Elt Ideal) ℓ) (g : Dev Cert.KernelSeamIdeal.nD → PrngReg), Pre_KernelSeamIdeal m →
    θ_run (Cert.KernelSeamIdeal.defs (F := Ideal)) (onTc (τ := Cert.KernelSeamIdeal.τ) (Cert.KernelSeamIdeal.main (F := Ideal))) ⟨m, fun _ => 0, g⟩ (fun r => (∀ c : Dev Cert.KernelSeamIdeal.nD,
      r.2.mem ((c.tc : Thread Cert.KernelSeamIdeal.nD Cert.KernelSeamIdeal.τ).loc Cert.KernelSeamIdeal.main_arg0) = m ((c.tc : Thread Cert.KernelSeamIdeal.nD Cert.KernelSeamIdeal.τ).loc Cert.KernelSeamIdeal.main_arg0)
      ∧ r.2.mem ((c.tc : Thread Cert.KernelSeamIdeal.nD Cert.KernelSeamIdeal.τ).loc Cert.KernelSeamIdeal.main_arg1) = m ((c.tc : Thread Cert.KernelSeamIdeal.nD Cert.KernelSeamIdeal.τ).loc Cert.KernelSeamIdeal.main_arg1)
      ∧ r.2.mem ((c.tc : Thread Cert.KernelSeamIdeal.nD Cert.KernelSeamIdeal.τ).loc Cert.KernelSeamIdeal.main_arg2) = m ((c.tc : Thread Cert.KernelSeamIdeal.nD Cert.KernelSeamIdeal.τ).loc Cert.KernelSeamIdeal.main_arg2)
      ∧ r.2.mem ((c.tc : Thread Cert.KernelSeamIdeal.nD Cert.KernelSeamIdeal.τ).loc Cert.KernelSeamIdeal.main_arg3) = m ((c.tc : Thread Cert.KernelSeamIdeal.nD Cert.KernelSeamIdeal.τ).loc Cert.KernelSeamIdeal.main_arg3)
      ∧ r.2.mem ((c.tc : Thread Cert.KernelSeamIdeal.nD Cert.KernelSeamIdeal.τ).loc Cert.KernelSeamIdeal.main_arg4) = m ((c.tc : Thread Cert.KernelSeamIdeal.nD Cert.KernelSeamIdeal.τ).loc Cert.KernelSeamIdeal.main_arg4)
      ∧ r.2.mem ((c.tc : Thread Cert.KernelSeamIdeal.nD Cert.KernelSeamIdeal.τ).loc Cert.KernelSeamIdeal.main_arg5) = m ((c.tc : Thread Cert.KernelSeamIdeal.nD Cert.KernelSeamIdeal.τ).loc Cert.KernelSeamIdeal.main_arg5)
      ∧ r.2.mem ((c.tc : Thread Cert.KernelSeamIdeal.nD Cert.KernelSeamIdeal.τ).loc Cert.KernelSeamIdeal.main_arg6) = m ((c.tc : Thread Cert.KernelSeamIdeal.nD Cert.KernelSeamIdeal.τ).loc Cert.KernelSeamIdeal.main_arg6)
      ∧ r.2.mem ((c.tc : Thread Cert.KernelSeamIdeal.nD Cert.KernelSeamIdeal.τ).loc Cert.KernelSeamIdeal.main_arg7) = m ((c.tc : Thread Cert.KernelSeamIdeal.nD Cert.KernelSeamIdeal.τ).loc Cert.KernelSeamIdeal.main_arg7)
      ∧ r.2.mem ((c.tc : Thread Cert.KernelSeamIdeal.nD Cert.KernelSeamIdeal.τ).loc Cert.KernelSeamIdeal.main_arg8) = m ((c.tc : Thread Cert.KernelSeamIdeal.nD Cert.KernelSeamIdeal.τ).loc Cert.KernelSeamIdeal.main_arg8)
      ∧ r.2.mem ((c.tc : Thread Cert.KernelSeamIdeal.nD Cert.KernelSeamIdeal.τ).loc Cert.KernelSeamIdeal.main_arg9) = m ((c.tc : Thread Cert.KernelSeamIdeal.nD Cert.KernelSeamIdeal.τ).loc Cert.KernelSeamIdeal.main_arg9)
      ∧ r.2.mem ((c.tc : Thread Cert.KernelSeamIdeal.nD Cert.KernelSeamIdeal.τ).loc Cert.KernelSeamIdeal.main_arg10) = m ((c.tc : Thread Cert.KernelSeamIdeal.nD Cert.KernelSeamIdeal.τ).loc Cert.KernelSeamIdeal.main_arg10))
      ∧ r.2.sem = fun _ => 0)

def quiescent_ReferenceSeamIdeal [hReferenceSeamIdeal : Cert.ReferenceSeamIdeal.Facts] : Prop :=
  ∀ (m : (ℓ : Loc Cert.ReferenceSeamIdeal.nD Cert.ReferenceSeamIdeal.τ Cert.ReferenceSeamIdeal.sig) → Buf (Elt Ideal) ℓ) (g : Dev Cert.ReferenceSeamIdeal.nD → PrngReg), Pre_ReferenceSeamIdeal m →
    θ_run (Cert.ReferenceSeamIdeal.defs (F := Ideal)) (onTc (τ := Cert.ReferenceSeamIdeal.τ) (Cert.ReferenceSeamIdeal.main (F := Ideal))) ⟨m, fun _ => 0, g⟩ (fun r => (∀ c : Dev Cert.ReferenceSeamIdeal.nD,
      r.2.mem ((c.tc : Thread Cert.ReferenceSeamIdeal.nD Cert.ReferenceSeamIdeal.τ).loc Cert.ReferenceSeamIdeal.main_arg0) = m ((c.tc : Thread Cert.ReferenceSeamIdeal.nD Cert.ReferenceSeamIdeal.τ).loc Cert.ReferenceSeamIdeal.main_arg0)
      ∧ r.2.mem ((c.tc : Thread Cert.ReferenceSeamIdeal.nD Cert.ReferenceSeamIdeal.τ).loc Cert.ReferenceSeamIdeal.main_arg1) = m ((c.tc : Thread Cert.ReferenceSeamIdeal.nD Cert.ReferenceSeamIdeal.τ).loc Cert.ReferenceSeamIdeal.main_arg1)
      ∧ r.2.mem ((c.tc : Thread Cert.ReferenceSeamIdeal.nD Cert.ReferenceSeamIdeal.τ).loc Cert.ReferenceSeamIdeal.main_arg2) = m ((c.tc : Thread Cert.ReferenceSeamIdeal.nD Cert.ReferenceSeamIdeal.τ).loc Cert.ReferenceSeamIdeal.main_arg2)
      ∧ r.2.mem ((c.tc : Thread Cert.ReferenceSeamIdeal.nD Cert.ReferenceSeamIdeal.τ).loc Cert.ReferenceSeamIdeal.main_arg3) = m ((c.tc : Thread Cert.ReferenceSeamIdeal.nD Cert.ReferenceSeamIdeal.τ).loc Cert.ReferenceSeamIdeal.main_arg3)
      ∧ r.2.mem ((c.tc : Thread Cert.ReferenceSeamIdeal.nD Cert.ReferenceSeamIdeal.τ).loc Cert.ReferenceSeamIdeal.main_arg4) = m ((c.tc : Thread Cert.ReferenceSeamIdeal.nD Cert.ReferenceSeamIdeal.τ).loc Cert.ReferenceSeamIdeal.main_arg4)
      ∧ r.2.mem ((c.tc : Thread Cert.ReferenceSeamIdeal.nD Cert.ReferenceSeamIdeal.τ).loc Cert.ReferenceSeamIdeal.main_arg5) = m ((c.tc : Thread Cert.ReferenceSeamIdeal.nD Cert.ReferenceSeamIdeal.τ).loc Cert.ReferenceSeamIdeal.main_arg5)
      ∧ r.2.mem ((c.tc : Thread Cert.ReferenceSeamIdeal.nD Cert.ReferenceSeamIdeal.τ).loc Cert.ReferenceSeamIdeal.main_arg6) = m ((c.tc : Thread Cert.ReferenceSeamIdeal.nD Cert.ReferenceSeamIdeal.τ).loc Cert.ReferenceSeamIdeal.main_arg6)
      ∧ r.2.mem ((c.tc : Thread Cert.ReferenceSeamIdeal.nD Cert.ReferenceSeamIdeal.τ).loc Cert.ReferenceSeamIdeal.main_arg7) = m ((c.tc : Thread Cert.ReferenceSeamIdeal.nD Cert.ReferenceSeamIdeal.τ).loc Cert.ReferenceSeamIdeal.main_arg7)
      ∧ r.2.mem ((c.tc : Thread Cert.ReferenceSeamIdeal.nD Cert.ReferenceSeamIdeal.τ).loc Cert.ReferenceSeamIdeal.main_arg8) = m ((c.tc : Thread Cert.ReferenceSeamIdeal.nD Cert.ReferenceSeamIdeal.τ).loc Cert.ReferenceSeamIdeal.main_arg8)
      ∧ r.2.mem ((c.tc : Thread Cert.ReferenceSeamIdeal.nD Cert.ReferenceSeamIdeal.τ).loc Cert.ReferenceSeamIdeal.main_arg9) = m ((c.tc : Thread Cert.ReferenceSeamIdeal.nD Cert.ReferenceSeamIdeal.τ).loc Cert.ReferenceSeamIdeal.main_arg9)
      ∧ r.2.mem ((c.tc : Thread Cert.ReferenceSeamIdeal.nD Cert.ReferenceSeamIdeal.τ).loc Cert.ReferenceSeamIdeal.main_arg10) = m ((c.tc : Thread Cert.ReferenceSeamIdeal.nD Cert.ReferenceSeamIdeal.τ).loc Cert.ReferenceSeamIdeal.main_arg10))
      ∧ r.2.sem = fun _ => 0)

def preserves_KernelMixer_KernelMixerIdeal : Prop :=
  True

def preserves_KernelNormed_KernelNormedIdeal : Prop :=
  True

def algebraic_KernelNormedIdeal_ReferenceNormedIdeal [hKernelNormedIdeal : Cert.KernelNormedIdeal.Facts] [hReferenceNormedIdeal : Cert.ReferenceNormedIdeal.Facts] : Prop :=
  ∀ (m : (ℓ : Loc Cert.KernelNormedIdeal.nD Cert.KernelNormedIdeal.τ Cert.KernelNormedIdeal.sig) → Buf (Elt Ideal) ℓ) (g : Dev Cert.KernelNormedIdeal.nD → PrngReg)
    (m' : (ℓ : Loc Cert.ReferenceNormedIdeal.nD Cert.ReferenceNormedIdeal.τ Cert.ReferenceNormedIdeal.sig) → Buf (Elt Ideal) ℓ) (g' : Dev Cert.ReferenceNormedIdeal.nD → PrngReg), Pre_KernelNormedIdeal m →
    (∀ c : Dev Cert.KernelNormedIdeal.nD,
      m' ((c.tc : Thread Cert.ReferenceNormedIdeal.nD Cert.ReferenceNormedIdeal.τ).loc Cert.ReferenceNormedIdeal.main_arg0) = m ((c.tc : Thread Cert.KernelNormedIdeal.nD Cert.KernelNormedIdeal.τ).loc Cert.KernelNormedIdeal.main_arg0)
      ∧ m' ((c.tc : Thread Cert.ReferenceNormedIdeal.nD Cert.ReferenceNormedIdeal.τ).loc Cert.ReferenceNormedIdeal.main_arg1) = m ((c.tc : Thread Cert.KernelNormedIdeal.nD Cert.KernelNormedIdeal.τ).loc Cert.KernelNormedIdeal.main_arg1)
      ∧ m' ((c.tc : Thread Cert.ReferenceNormedIdeal.nD Cert.ReferenceNormedIdeal.τ).loc Cert.ReferenceNormedIdeal.main_arg2) = m ((c.tc : Thread Cert.KernelNormedIdeal.nD Cert.KernelNormedIdeal.τ).loc Cert.KernelNormedIdeal.main_arg2)
      ∧ m' ((c.tc : Thread Cert.ReferenceNormedIdeal.nD Cert.ReferenceNormedIdeal.τ).loc Cert.ReferenceNormedIdeal.main_arg3) = m ((c.tc : Thread Cert.KernelNormedIdeal.nD Cert.KernelNormedIdeal.τ).loc Cert.KernelNormedIdeal.main_arg3)
      ∧ m' ((c.tc : Thread Cert.ReferenceNormedIdeal.nD Cert.ReferenceNormedIdeal.τ).loc Cert.ReferenceNormedIdeal.main_arg4) = m ((c.tc : Thread Cert.KernelNormedIdeal.nD Cert.KernelNormedIdeal.τ).loc Cert.KernelNormedIdeal.main_arg4)
      ∧ m' ((c.tc : Thread Cert.ReferenceNormedIdeal.nD Cert.ReferenceNormedIdeal.τ).loc Cert.ReferenceNormedIdeal.main_arg5) = m ((c.tc : Thread Cert.KernelNormedIdeal.nD Cert.KernelNormedIdeal.τ).loc Cert.KernelNormedIdeal.main_arg5)) →
    ∃ (v0 : (c : Dev Cert.KernelNormedIdeal.nD) → Buf (Elt Ideal) ((c.tc : Thread Cert.KernelNormedIdeal.nD Cert.KernelNormedIdeal.τ).loc Cert.KernelNormedIdeal.main_v5_0)) (v1 : (c : Dev Cert.KernelNormedIdeal.nD) → Buf (Elt Ideal) ((c.tc : Thread Cert.KernelNormedIdeal.nD Cert.KernelNormedIdeal.τ).loc Cert.KernelNormedIdeal.main_v5_1)),
      θ_run (Cert.KernelNormedIdeal.defs (F := Ideal)) (onTc (τ := Cert.KernelNormedIdeal.τ) (Cert.KernelNormedIdeal.main (F := Ideal))) ⟨m, fun _ => 0, g⟩ (fun r => ∀ c : Dev Cert.KernelNormedIdeal.nD,
          r.2.mem ((c.tc : Thread Cert.KernelNormedIdeal.nD Cert.KernelNormedIdeal.τ).loc Cert.KernelNormedIdeal.main_v5_0) = v0 c
          ∧ r.2.mem ((c.tc : Thread Cert.KernelNormedIdeal.nD Cert.KernelNormedIdeal.τ).loc Cert.KernelNormedIdeal.main_v5_1) = v1 c
          ∧ r.2.mem ((c.tc : Thread Cert.KernelNormedIdeal.nD Cert.KernelNormedIdeal.τ).loc Cert.KernelNormedIdeal.main_arg0) = m ((c.tc : Thread Cert.KernelNormedIdeal.nD Cert.KernelNormedIdeal.τ).loc Cert.KernelNormedIdeal.main_arg0)
          ∧ r.2.mem ((c.tc : Thread Cert.KernelNormedIdeal.nD Cert.KernelNormedIdeal.τ).loc Cert.KernelNormedIdeal.main_arg1) = m ((c.tc : Thread Cert.KernelNormedIdeal.nD Cert.KernelNormedIdeal.τ).loc Cert.KernelNormedIdeal.main_arg1)
          ∧ r.2.mem ((c.tc : Thread Cert.KernelNormedIdeal.nD Cert.KernelNormedIdeal.τ).loc Cert.KernelNormedIdeal.main_arg2) = m ((c.tc : Thread Cert.KernelNormedIdeal.nD Cert.KernelNormedIdeal.τ).loc Cert.KernelNormedIdeal.main_arg2)
          ∧ r.2.mem ((c.tc : Thread Cert.KernelNormedIdeal.nD Cert.KernelNormedIdeal.τ).loc Cert.KernelNormedIdeal.main_arg3) = m ((c.tc : Thread Cert.KernelNormedIdeal.nD Cert.KernelNormedIdeal.τ).loc Cert.KernelNormedIdeal.main_arg3)
          ∧ r.2.mem ((c.tc : Thread Cert.KernelNormedIdeal.nD Cert.KernelNormedIdeal.τ).loc Cert.KernelNormedIdeal.main_arg4) = m ((c.tc : Thread Cert.KernelNormedIdeal.nD Cert.KernelNormedIdeal.τ).loc Cert.KernelNormedIdeal.main_arg4)
          ∧ r.2.mem ((c.tc : Thread Cert.KernelNormedIdeal.nD Cert.KernelNormedIdeal.τ).loc Cert.KernelNormedIdeal.main_arg5) = m ((c.tc : Thread Cert.KernelNormedIdeal.nD Cert.KernelNormedIdeal.τ).loc Cert.KernelNormedIdeal.main_arg5))
      ∧ θ_run (Cert.ReferenceNormedIdeal.defs (F := Ideal)) (onTc (τ := Cert.ReferenceNormedIdeal.τ) (Cert.ReferenceNormedIdeal.main (F := Ideal))) ⟨m', fun _ => 0, g'⟩ (fun r => ∀ c : Dev Cert.ReferenceNormedIdeal.nD,
          r.2.mem ((c.tc : Thread Cert.ReferenceNormedIdeal.nD Cert.ReferenceNormedIdeal.τ).loc Cert.ReferenceNormedIdeal.main_v28) = v0 c
          ∧ r.2.mem ((c.tc : Thread Cert.ReferenceNormedIdeal.nD Cert.ReferenceNormedIdeal.τ).loc Cert.ReferenceNormedIdeal.main_v44) = v1 c
          ∧ r.2.mem ((c.tc : Thread Cert.ReferenceNormedIdeal.nD Cert.ReferenceNormedIdeal.τ).loc Cert.ReferenceNormedIdeal.main_arg0) = m' ((c.tc : Thread Cert.ReferenceNormedIdeal.nD Cert.ReferenceNormedIdeal.τ).loc Cert.ReferenceNormedIdeal.main_arg0)
          ∧ r.2.mem ((c.tc : Thread Cert.ReferenceNormedIdeal.nD Cert.ReferenceNormedIdeal.τ).loc Cert.ReferenceNormedIdeal.main_arg1) = m' ((c.tc : Thread Cert.ReferenceNormedIdeal.nD Cert.ReferenceNormedIdeal.τ).loc Cert.ReferenceNormedIdeal.main_arg1)
          ∧ r.2.mem ((c.tc : Thread Cert.ReferenceNormedIdeal.nD Cert.ReferenceNormedIdeal.τ).loc Cert.ReferenceNormedIdeal.main_arg2) = m' ((c.tc : Thread Cert.ReferenceNormedIdeal.nD Cert.ReferenceNormedIdeal.τ).loc Cert.ReferenceNormedIdeal.main_arg2)
          ∧ r.2.mem ((c.tc : Thread Cert.ReferenceNormedIdeal.nD Cert.ReferenceNormedIdeal.τ).loc Cert.ReferenceNormedIdeal.main_arg3) = m' ((c.tc : Thread Cert.ReferenceNormedIdeal.nD Cert.ReferenceNormedIdeal.τ).loc Cert.ReferenceNormedIdeal.main_arg3)
          ∧ r.2.mem ((c.tc : Thread Cert.ReferenceNormedIdeal.nD Cert.ReferenceNormedIdeal.τ).loc Cert.ReferenceNormedIdeal.main_arg4) = m' ((c.tc : Thread Cert.ReferenceNormedIdeal.nD Cert.ReferenceNormedIdeal.τ).loc Cert.ReferenceNormedIdeal.main_arg4)
          ∧ r.2.mem ((c.tc : Thread Cert.ReferenceNormedIdeal.nD Cert.ReferenceNormedIdeal.τ).loc Cert.ReferenceNormedIdeal.main_arg5) = m' ((c.tc : Thread Cert.ReferenceNormedIdeal.nD Cert.ReferenceNormedIdeal.τ).loc Cert.ReferenceNormedIdeal.main_arg5))

def preserves_KernelPlain_KernelPlainIdeal : Prop :=
  True

def algebraic_KernelPlainIdeal_ReferencePlainIdeal [hKernelPlainIdeal : Cert.KernelPlainIdeal.Facts] [hReferencePlainIdeal : Cert.ReferencePlainIdeal.Facts] : Prop :=
  ∀ (m : (ℓ : Loc Cert.KernelPlainIdeal.nD Cert.KernelPlainIdeal.τ Cert.KernelPlainIdeal.sig) → Buf (Elt Ideal) ℓ) (g : Dev Cert.KernelPlainIdeal.nD → PrngReg)
    (m' : (ℓ : Loc Cert.ReferencePlainIdeal.nD Cert.ReferencePlainIdeal.τ Cert.ReferencePlainIdeal.sig) → Buf (Elt Ideal) ℓ) (g' : Dev Cert.ReferencePlainIdeal.nD → PrngReg), Pre_KernelPlainIdeal m →
    (∀ c : Dev Cert.KernelPlainIdeal.nD,
      m' ((c.tc : Thread Cert.ReferencePlainIdeal.nD Cert.ReferencePlainIdeal.τ).loc Cert.ReferencePlainIdeal.main_arg0) = m ((c.tc : Thread Cert.KernelPlainIdeal.nD Cert.KernelPlainIdeal.τ).loc Cert.KernelPlainIdeal.main_arg0)
      ∧ m' ((c.tc : Thread Cert.ReferencePlainIdeal.nD Cert.ReferencePlainIdeal.τ).loc Cert.ReferencePlainIdeal.main_arg1) = m ((c.tc : Thread Cert.KernelPlainIdeal.nD Cert.KernelPlainIdeal.τ).loc Cert.KernelPlainIdeal.main_arg1)
      ∧ m' ((c.tc : Thread Cert.ReferencePlainIdeal.nD Cert.ReferencePlainIdeal.τ).loc Cert.ReferencePlainIdeal.main_arg2) = m ((c.tc : Thread Cert.KernelPlainIdeal.nD Cert.KernelPlainIdeal.τ).loc Cert.KernelPlainIdeal.main_arg2)
      ∧ m' ((c.tc : Thread Cert.ReferencePlainIdeal.nD Cert.ReferencePlainIdeal.τ).loc Cert.ReferencePlainIdeal.main_arg3) = m ((c.tc : Thread Cert.KernelPlainIdeal.nD Cert.KernelPlainIdeal.τ).loc Cert.KernelPlainIdeal.main_arg3)
      ∧ m' ((c.tc : Thread Cert.ReferencePlainIdeal.nD Cert.ReferencePlainIdeal.τ).loc Cert.ReferencePlainIdeal.main_arg4) = m ((c.tc : Thread Cert.KernelPlainIdeal.nD Cert.KernelPlainIdeal.τ).loc Cert.KernelPlainIdeal.main_arg4)
      ∧ m' ((c.tc : Thread Cert.ReferencePlainIdeal.nD Cert.ReferencePlainIdeal.τ).loc Cert.ReferencePlainIdeal.main_arg5) = m ((c.tc : Thread Cert.KernelPlainIdeal.nD Cert.KernelPlainIdeal.τ).loc Cert.KernelPlainIdeal.main_arg5)) →
    ∃ (v0 : (c : Dev Cert.KernelPlainIdeal.nD) → Buf (Elt Ideal) ((c.tc : Thread Cert.KernelPlainIdeal.nD Cert.KernelPlainIdeal.τ).loc Cert.KernelPlainIdeal.main_v5)),
      θ_run (Cert.KernelPlainIdeal.defs (F := Ideal)) (onTc (τ := Cert.KernelPlainIdeal.τ) (Cert.KernelPlainIdeal.main (F := Ideal))) ⟨m, fun _ => 0, g⟩ (fun r => ∀ c : Dev Cert.KernelPlainIdeal.nD,
          r.2.mem ((c.tc : Thread Cert.KernelPlainIdeal.nD Cert.KernelPlainIdeal.τ).loc Cert.KernelPlainIdeal.main_v5) = v0 c
          ∧ r.2.mem ((c.tc : Thread Cert.KernelPlainIdeal.nD Cert.KernelPlainIdeal.τ).loc Cert.KernelPlainIdeal.main_arg0) = m ((c.tc : Thread Cert.KernelPlainIdeal.nD Cert.KernelPlainIdeal.τ).loc Cert.KernelPlainIdeal.main_arg0)
          ∧ r.2.mem ((c.tc : Thread Cert.KernelPlainIdeal.nD Cert.KernelPlainIdeal.τ).loc Cert.KernelPlainIdeal.main_arg1) = m ((c.tc : Thread Cert.KernelPlainIdeal.nD Cert.KernelPlainIdeal.τ).loc Cert.KernelPlainIdeal.main_arg1)
          ∧ r.2.mem ((c.tc : Thread Cert.KernelPlainIdeal.nD Cert.KernelPlainIdeal.τ).loc Cert.KernelPlainIdeal.main_arg2) = m ((c.tc : Thread Cert.KernelPlainIdeal.nD Cert.KernelPlainIdeal.τ).loc Cert.KernelPlainIdeal.main_arg2)
          ∧ r.2.mem ((c.tc : Thread Cert.KernelPlainIdeal.nD Cert.KernelPlainIdeal.τ).loc Cert.KernelPlainIdeal.main_arg3) = m ((c.tc : Thread Cert.KernelPlainIdeal.nD Cert.KernelPlainIdeal.τ).loc Cert.KernelPlainIdeal.main_arg3)
          ∧ r.2.mem ((c.tc : Thread Cert.KernelPlainIdeal.nD Cert.KernelPlainIdeal.τ).loc Cert.KernelPlainIdeal.main_arg4) = m ((c.tc : Thread Cert.KernelPlainIdeal.nD Cert.KernelPlainIdeal.τ).loc Cert.KernelPlainIdeal.main_arg4)
          ∧ r.2.mem ((c.tc : Thread Cert.KernelPlainIdeal.nD Cert.KernelPlainIdeal.τ).loc Cert.KernelPlainIdeal.main_arg5) = m ((c.tc : Thread Cert.KernelPlainIdeal.nD Cert.KernelPlainIdeal.τ).loc Cert.KernelPlainIdeal.main_arg5))
      ∧ θ_run (Cert.ReferencePlainIdeal.defs (F := Ideal)) (onTc (τ := Cert.ReferencePlainIdeal.τ) (Cert.ReferencePlainIdeal.main (F := Ideal))) ⟨m', fun _ => 0, g'⟩ (fun r => ∀ c : Dev Cert.ReferencePlainIdeal.nD,
          r.2.mem ((c.tc : Thread Cert.ReferencePlainIdeal.nD Cert.ReferencePlainIdeal.τ).loc Cert.ReferencePlainIdeal.main_v28) = v0 c
          ∧ r.2.mem ((c.tc : Thread Cert.ReferencePlainIdeal.nD Cert.ReferencePlainIdeal.τ).loc Cert.ReferencePlainIdeal.main_arg0) = m' ((c.tc : Thread Cert.ReferencePlainIdeal.nD Cert.ReferencePlainIdeal.τ).loc Cert.ReferencePlainIdeal.main_arg0)
          ∧ r.2.mem ((c.tc : Thread Cert.ReferencePlainIdeal.nD Cert.ReferencePlainIdeal.τ).loc Cert.ReferencePlainIdeal.main_arg1) = m' ((c.tc : Thread Cert.ReferencePlainIdeal.nD Cert.ReferencePlainIdeal.τ).loc Cert.ReferencePlainIdeal.main_arg1)
          ∧ r.2.mem ((c.tc : Thread Cert.ReferencePlainIdeal.nD Cert.ReferencePlainIdeal.τ).loc Cert.ReferencePlainIdeal.main_arg2) = m' ((c.tc : Thread Cert.ReferencePlainIdeal.nD Cert.ReferencePlainIdeal.τ).loc Cert.ReferencePlainIdeal.main_arg2)
          ∧ r.2.mem ((c.tc : Thread Cert.ReferencePlainIdeal.nD Cert.ReferencePlainIdeal.τ).loc Cert.ReferencePlainIdeal.main_arg3) = m' ((c.tc : Thread Cert.ReferencePlainIdeal.nD Cert.ReferencePlainIdeal.τ).loc Cert.ReferencePlainIdeal.main_arg3)
          ∧ r.2.mem ((c.tc : Thread Cert.ReferencePlainIdeal.nD Cert.ReferencePlainIdeal.τ).loc Cert.ReferencePlainIdeal.main_arg4) = m' ((c.tc : Thread Cert.ReferencePlainIdeal.nD Cert.ReferencePlainIdeal.τ).loc Cert.ReferencePlainIdeal.main_arg4)
          ∧ r.2.mem ((c.tc : Thread Cert.ReferencePlainIdeal.nD Cert.ReferencePlainIdeal.τ).loc Cert.ReferencePlainIdeal.main_arg5) = m' ((c.tc : Thread Cert.ReferencePlainIdeal.nD Cert.ReferencePlainIdeal.τ).loc Cert.ReferencePlainIdeal.main_arg5))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)
      ∧ m' ((c.tc : Thread Cert.ReferenceFinalIdeal.nD Cert.ReferenceFinalIdeal.τ).loc Cert.ReferenceFinalIdeal.main_arg3) = m ((c.tc : Thread Cert.KernelFinalIdeal.nD Cert.KernelFinalIdeal.τ).loc Cert.KernelFinalIdeal.main_arg3)
      ∧ m' ((c.tc : Thread Cert.ReferenceFinalIdeal.nD Cert.ReferenceFinalIdeal.τ).loc Cert.ReferenceFinalIdeal.main_arg4) = m ((c.tc : Thread Cert.KernelFinalIdeal.nD Cert.KernelFinalIdeal.τ).loc Cert.KernelFinalIdeal.main_arg4)
      ∧ m' ((c.tc : Thread Cert.ReferenceFinalIdeal.nD Cert.ReferenceFinalIdeal.τ).loc Cert.ReferenceFinalIdeal.main_arg5) = m ((c.tc : Thread Cert.KernelFinalIdeal.nD Cert.KernelFinalIdeal.τ).loc Cert.KernelFinalIdeal.main_arg5)) →
    ∃ (v0 : (c : Dev Cert.KernelFinalIdeal.nD) → Buf (Elt Ideal) ((c.tc : Thread Cert.KernelFinalIdeal.nD Cert.KernelFinalIdeal.τ).loc Cert.KernelFinalIdeal.main_v5)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v5) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
          ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
          ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
          ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v41) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4)
          ∧ r.2.mem ((c.tc : Thread Cert.ReferenceFinalIdeal.nD Cert.ReferenceFinalIdeal.τ).loc Cert.ReferenceFinalIdeal.main_arg5) = m' ((c.tc : Thread Cert.ReferenceFinalIdeal.nD Cert.ReferenceFinalIdeal.τ).loc Cert.ReferenceFinalIdeal.main_arg5))

def preserves_KernelNext_KernelNextIdeal : Prop :=
  True

def algebraic_KernelNextIdeal_ReferenceNextIdeal [hKernelNextIdeal : Cert.KernelNextIdeal.Facts] [hReferenceNextIdeal : Cert.ReferenceNextIdeal.Facts] : Prop :=
  ∀ (m : (ℓ : Loc Cert.KernelNextIdeal.nD Cert.KernelNextIdeal.τ Cert.KernelNextIdeal.sig) → Buf (Elt Ideal) ℓ) (g : Dev Cert.KernelNextIdeal.nD → PrngReg)
    (m' : (ℓ : Loc Cert.ReferenceNextIdeal.nD Cert.ReferenceNextIdeal.τ Cert.ReferenceNextIdeal.sig) → Buf (Elt Ideal) ℓ) (g' : Dev Cert.ReferenceNextIdeal.nD → PrngReg), Pre_KernelNextIdeal m →
    (∀ c : Dev Cert.KernelNextIdeal.nD,
      m' ((c.tc : Thread Cert.ReferenceNextIdeal.nD Cert.ReferenceNextIdeal.τ).loc Cert.ReferenceNextIdeal.main_arg0) = m ((c.tc : Thread Cert.KernelNextIdeal.nD Cert.KernelNextIdeal.τ).loc Cert.KernelNextIdeal.main_arg0)
      ∧ m' ((c.tc : Thread Cert.ReferenceNextIdeal.nD Cert.ReferenceNextIdeal.τ).loc Cert.ReferenceNextIdeal.main_arg1) = m ((c.tc : Thread Cert.KernelNextIdeal.nD Cert.KernelNextIdeal.τ).loc Cert.KernelNextIdeal.main_arg1)
      ∧ m' ((c.tc : Thread Cert.ReferenceNextIdeal.nD Cert.ReferenceNextIdeal.τ).loc Cert.ReferenceNextIdeal.main_arg2) = m ((c.tc : Thread Cert.KernelNextIdeal.nD Cert.KernelNextIdeal.τ).loc Cert.KernelNextIdeal.main_arg2)
      ∧ m' ((c.tc : Thread Cert.ReferenceNextIdeal.nD Cert.ReferenceNextIdeal.τ).loc Cert.ReferenceNextIdeal.main_arg3) = m ((c.tc : Thread Cert.KernelNextIdeal.nD Cert.KernelNextIdeal.τ).loc Cert.KernelNextIdeal.main_arg3)
      ∧ m' ((c.tc : Thread Cert.ReferenceNextIdeal.nD Cert.ReferenceNextIdeal.τ).loc Cert.ReferenceNextIdeal.main_arg4) = m ((c.tc : Thread Cert.KernelNextIdeal.nD Cert.KernelNextIdeal.τ).loc Cert.KernelNextIdeal.main_arg4)
      ∧ m' ((c.tc : Thread Cert.ReferenceNextIdeal.nD Cert.ReferenceNextIdeal.τ).loc Cert.ReferenceNextIdeal.main_arg5) = m ((c.tc : Thread Cert.KernelNextIdeal.nD Cert.KernelNextIdeal.τ).loc Cert.KernelNextIdeal.main_arg5)) →
    ∃ (v0 : (c : Dev Cert.KernelNextIdeal.nD) → Buf (Elt Ideal) ((c.tc : Thread Cert.KernelNextIdeal.nD Cert.KernelNextIdeal.τ).loc Cert.KernelNextIdeal.main_v5_0)) (v1 : (c : Dev Cert.KernelNextIdeal.nD) → Buf (Elt Ideal) ((c.tc : Thread Cert.KernelNextIdeal.nD Cert.KernelNextIdeal.τ).loc Cert.KernelNextIdeal.main_v5_1)),
      θ_run (Cert.KernelNextIdeal.defs (F := Ideal)) (onTc (τ := Cert.KernelNextIdeal.τ) (Cert.KernelNextIdeal.main (F := Ideal))) ⟨m, fun _ => 0, g⟩ (fun r => ∀ c : Dev Cert.KernelNextIdeal.nD,
          r.2.mem ((c.tc : Thread Cert.KernelNextIdeal.nD Cert.KernelNextIdeal.τ).loc Cert.KernelNextIdeal.main_v5_0) = v0 c
          ∧ r.2.mem ((c.tc : Thread Cert.KernelNextIdeal.nD Cert.KernelNextIdeal.τ).loc Cert.KernelNextIdeal.main_v5_1) = v1 c
          ∧ r.2.mem ((c.tc : Thread Cert.KernelNextIdeal.nD Cert.KernelNextIdeal.τ).loc Cert.KernelNextIdeal.main_arg0) = m ((c.tc : Thread Cert.KernelNextIdeal.nD Cert.KernelNextIdeal.τ).loc Cert.KernelNextIdeal.main_arg0)
          ∧ r.2.mem ((c.tc : Thread Cert.KernelNextIdeal.nD Cert.KernelNextIdeal.τ).loc Cert.KernelNextIdeal.main_arg1) = m ((c.tc : Thread Cert.KernelNextIdeal.nD Cert.KernelNextIdeal.τ).loc Cert.KernelNextIdeal.main_arg1)
          ∧ r.2.mem ((c.tc : Thread Cert.KernelNextIdeal.nD Cert.KernelNextIdeal.τ).loc Cert.KernelNextIdeal.main_arg2) = m ((c.tc : Thread Cert.KernelNextIdeal.nD Cert.KernelNextIdeal.τ).loc Cert.KernelNextIdeal.main_arg2)
          ∧ r.2.mem ((c.tc : Thread Cert.KernelNextIdeal.nD Cert.KernelNextIdeal.τ).loc Cert.KernelNextIdeal.main_arg3) = m ((c.tc : Thread Cert.KernelNextIdeal.nD Cert.KernelNextIdeal.τ).loc Cert.KernelNextIdeal.main_arg3)
          ∧ r.2.mem ((c.tc : Thread Cert.KernelNextIdeal.nD Cert.KernelNextIdeal.τ).loc Cert.KernelNextIdeal.main_arg4) = m ((c.tc : Thread Cert.KernelNextIdeal.nD Cert.KernelNextIdeal.τ).loc Cert.KernelNextIdeal.main_arg4)
          ∧ r.2.mem ((c.tc : Thread Cert.KernelNextIdeal.nD Cert.KernelNextIdeal.τ).loc Cert.KernelNextIdeal.main_arg5) = m ((c.tc : Thread Cert.KernelNextIdeal.nD Cert.KernelNextIdeal.τ).loc Cert.KernelNextIdeal.main_arg5))
      ∧ θ_run (Cert.ReferenceNextIdeal.defs (F := Ideal)) (onTc (τ := Cert.ReferenceNextIdeal.τ) (Cert.ReferenceNextIdeal.main (F := Ideal))) ⟨m', fun _ => 0, g'⟩ (fun r => ∀ c : Dev Cert.ReferenceNextIdeal.nD,
          r.2.mem ((c.tc : Thread Cert.ReferenceNextIdeal.nD Cert.ReferenceNextIdeal.τ).loc Cert.ReferenceNextIdeal.main_v28) = v0 c
          ∧ r.2.mem ((c.tc : Thread Cert.ReferenceNextIdeal.nD Cert.ReferenceNextIdeal.τ).loc Cert.ReferenceNextIdeal.main_v44) = v1 c
          ∧ r.2.mem ((c.tc : Thread Cert.ReferenceNextIdeal.nD Cert.ReferenceNextIdeal.τ).loc Cert.ReferenceNextIdeal.main_arg0) = m' ((c.tc : Thread Cert.ReferenceNextIdeal.nD Cert.ReferenceNextIdeal.τ).loc Cert.ReferenceNextIdeal.main_arg0)
          ∧ r.2.mem ((c.tc : Thread Cert.ReferenceNextIdeal.nD Cert.ReferenceNextIdeal.τ).loc Cert.ReferenceNextIdeal.main_arg1) = m' ((c.tc : Thread Cert.ReferenceNextIdeal.nD Cert.ReferenceNextIdeal.τ).loc Cert.ReferenceNextIdeal.main_arg1)
          ∧ r.2.mem ((c.tc : Thread Cert.ReferenceNextIdeal.nD Cert.ReferenceNextIdeal.τ).loc Cert.ReferenceNextIdeal.main_arg2) = m' ((c.tc : Thread Cert.ReferenceNextIdeal.nD Cert.ReferenceNextIdeal.τ).loc Cert.ReferenceNextIdeal.main_arg2)
          ∧ r.2.mem ((c.tc : Thread Cert.ReferenceNextIdeal.nD Cert.ReferenceNextIdeal.τ).loc Cert.ReferenceNextIdeal.main_arg3) = m' ((c.tc : Thread Cert.ReferenceNextIdeal.nD Cert.ReferenceNextIdeal.τ).loc Cert.ReferenceNextIdeal.main_arg3)
          ∧ r.2.mem ((c.tc : Thread Cert.ReferenceNextIdeal.nD Cert.ReferenceNextIdeal.τ).loc Cert.ReferenceNextIdeal.main_arg4) = m' ((c.tc : Thread Cert.ReferenceNextIdeal.nD Cert.ReferenceNextIdeal.τ).loc Cert.ReferenceNextIdeal.main_arg4)
          ∧ r.2.mem ((c.tc : Thread Cert.ReferenceNextIdeal.nD Cert.ReferenceNextIdeal.τ).loc Cert.ReferenceNextIdeal.main_arg5) = m' ((c.tc : Thread Cert.ReferenceNextIdeal.nD Cert.ReferenceNextIdeal.τ).loc Cert.ReferenceNextIdeal.main_arg5))

def preserves_KernelSeam_KernelSeamIdeal : Prop :=
  True

def algebraic_KernelSeamIdeal_ReferenceSeamIdeal [hKernelSeamIdeal : Cert.KernelSeamIdeal.Facts] [hReferenceSeamIdeal : Cert.ReferenceSeamIdeal.Facts] : Prop :=
  ∀ (m : (ℓ : Loc Cert.KernelSeamIdeal.nD Cert.KernelSeamIdeal.τ Cert.KernelSeamIdeal.sig) → Buf (Elt Ideal) ℓ) (g : Dev Cert.KernelSeamIdeal.nD → PrngReg)
    (m' : (ℓ : Loc Cert.ReferenceSeamIdeal.nD Cert.ReferenceSeamIdeal.τ Cert.ReferenceSeamIdeal.sig) → Buf (Elt Ideal) ℓ) (g' : Dev Cert.ReferenceSeamIdeal.nD → PrngReg), Pre_KernelSeamIdeal m →
    (∀ c : Dev Cert.KernelSeamIdeal.nD,
      m' ((c.tc : Thread Cert.ReferenceSeamIdeal.nD Cert.ReferenceSeamIdeal.τ).loc Cert.ReferenceSeamIdeal.main_arg0) = m ((c.tc : Thread Cert.KernelSeamIdeal.nD Cert.KernelSeamIdeal.τ).loc Cert.KernelSeamIdeal.main_arg0)
      ∧ m' ((c.tc : Thread Cert.ReferenceSeamIdeal.nD Cert.ReferenceSeamIdeal.τ).loc Cert.ReferenceSeamIdeal.main_arg1) = m ((c.tc : Thread Cert.KernelSeamIdeal.nD Cert.KernelSeamIdeal.τ).loc Cert.KernelSeamIdeal.main_arg1)
      ∧ m' ((c.tc : Thread Cert.ReferenceSeamIdeal.nD Cert.ReferenceSeamIdeal.τ).loc Cert.ReferenceSeamIdeal.main_arg2) = m ((c.tc : Thread Cert.KernelSeamIdeal.nD Cert.KernelSeamIdeal.τ).loc Cert.KernelSeamIdeal.main_arg2)
      ∧ m' ((c.tc : Thread Cert.ReferenceSeamIdeal.nD Cert.ReferenceSeamIdeal.τ).loc Cert.ReferenceSeamIdeal.main_arg3) = m ((c.tc : Thread Cert.KernelSeamIdeal.nD Cert.KernelSeamIdeal.τ).loc Cert.KernelSeamIdeal.main_arg3)
      ∧ m' ((c.tc : Thread Cert.ReferenceSeamIdeal.nD Cert.ReferenceSeamIdeal.τ).loc Cert.ReferenceSeamIdeal.main_arg4) = m ((c.tc : Thread Cert.KernelSeamIdeal.nD Cert.KernelSeamIdeal.τ).loc Cert.KernelSeamIdeal.main_arg4)
      ∧ m' ((c.tc : Thread Cert.ReferenceSeamIdeal.nD Cert.ReferenceSeamIdeal.τ).loc Cert.ReferenceSeamIdeal.main_arg5) = m ((c.tc : Thread Cert.KernelSeamIdeal.nD Cert.KernelSeamIdeal.τ).loc Cert.KernelSeamIdeal.main_arg5)
      ∧ m' ((c.tc : Thread Cert.ReferenceSeamIdeal.nD Cert.ReferenceSeamIdeal.τ).loc Cert.ReferenceSeamIdeal.main_arg6) = m ((c.tc : Thread Cert.KernelSeamIdeal.nD Cert.KernelSeamIdeal.τ).loc Cert.KernelSeamIdeal.main_arg6)
      ∧ m' ((c.tc : Thread Cert.ReferenceSeamIdeal.nD Cert.ReferenceSeamIdeal.τ).loc Cert.ReferenceSeamIdeal.main_arg7) = m ((c.tc : Thread Cert.KernelSeamIdeal.nD Cert.KernelSeamIdeal.τ).loc Cert.KernelSeamIdeal.main_arg7)
      ∧ m' ((c.tc : Thread Cert.ReferenceSeamIdeal.nD Cert.ReferenceSeamIdeal.τ).loc Cert.ReferenceSeamIdeal.main_arg8) = m ((c.tc : Thread Cert.KernelSeamIdeal.nD Cert.KernelSeamIdeal.τ).loc Cert.KernelSeamIdeal.main_arg8)
      ∧ m' ((c.tc : Thread Cert.ReferenceSeamIdeal.nD Cert.ReferenceSeamIdeal.τ).loc Cert.ReferenceSeamIdeal.main_arg9) = m ((c.tc : Thread Cert.KernelSeamIdeal.nD Cert.KernelSeamIdeal.τ).loc Cert.KernelSeamIdeal.main_arg9)
      ∧ m' ((c.tc : Thread Cert.ReferenceSeamIdeal.nD Cert.ReferenceSeamIdeal.τ).loc Cert.ReferenceSeamIdeal.main_arg10) = m ((c.tc : Thread Cert.KernelSeamIdeal.nD Cert.KernelSeamIdeal.τ).loc Cert.KernelSeamIdeal.main_arg10)) →
    ∃ (v0 : (c : Dev Cert.KernelSeamIdeal.nD) → Buf (Elt Ideal) ((c.tc : Thread Cert.KernelSeamIdeal.nD Cert.KernelSeamIdeal.τ).loc Cert.KernelSeamIdeal.main_v11_0)) (v1 : (c : Dev Cert.KernelSeamIdeal.nD) → Buf (Elt Ideal) ((c.tc : Thread Cert.KernelSeamIdeal.nD Cert.KernelSeamIdeal.τ).loc Cert.KernelSeamIdeal.main_v11_1)),
      θ_run (Cert.KernelSeamIdeal.defs (F := Ideal)) (onTc (τ := Cert.KernelSeamIdeal.τ) (Cert.KernelSeamIdeal.main (F := Ideal))) ⟨m, fun _ => 0, g⟩ (fun r => ∀ c : Dev Cert.KernelSeamIdeal.nD,
          r.2.mem ((c.tc : Thread Cert.KernelSeamIdeal.nD Cert.KernelSeamIdeal.τ).loc Cert.KernelSeamIdeal.main_v11_0) = v0 c
          ∧ r.2.mem ((c.tc : Thread Cert.KernelSeamIdeal.nD Cert.KernelSeamIdeal.τ).loc Cert.KernelSeamIdeal.main_v11_1) = v1 c
          ∧ r.2.mem ((c.tc : Thread Cert.KernelSeamIdeal.nD Cert.KernelSeamIdeal.τ).loc Cert.KernelSeamIdeal.main_arg0) = m ((c.tc : Thread Cert.KernelSeamIdeal.nD Cert.KernelSeamIdeal.τ).loc Cert.KernelSeamIdeal.main_arg0)
          ∧ r.2.mem ((c.tc : Thread Cert.KernelSeamIdeal.nD Cert.KernelSeamIdeal.τ).loc Cert.KernelSeamIdeal.main_arg1) = m ((c.tc : Thread Cert.KernelSeamIdeal.nD Cert.KernelSeamIdeal.τ).loc Cert.KernelSeamIdeal.main_arg1)
          ∧ r.2.mem ((c.tc : Thread Cert.KernelSeamIdeal.nD Cert.KernelSeamIdeal.τ).loc Cert.KernelSeamIdeal.main_arg2) = m ((c.tc : Thread Cert.KernelSeamIdeal.nD Cert.KernelSeamIdeal.τ).loc Cert.KernelSeamIdeal.main_arg2)
          ∧ r.2.mem ((c.tc : Thread Cert.KernelSeamIdeal.nD Cert.KernelSeamIdeal.τ).loc Cert.KernelSeamIdeal.main_arg3) = m ((c.tc : Thread Cert.KernelSeamIdeal.nD Cert.KernelSeamIdeal.τ).loc Cert.KernelSeamIdeal.main_arg3)
          ∧ r.2.mem ((c.tc : Thread Cert.KernelSeamIdeal.nD Cert.KernelSeamIdeal.τ).loc Cert.KernelSeamIdeal.main_arg4) = m ((c.tc : Thread Cert.KernelSeamIdeal.nD Cert.KernelSeamIdeal.τ).loc Cert.KernelSeamIdeal.main_arg4)
          ∧ r.2.mem ((c.tc : Thread Cert.KernelSeamIdeal.nD Cert.KernelSeamIdeal.τ).loc Cert.KernelSeamIdeal.main_arg5) = m ((c.tc : Thread Cert.KernelSeamIdeal.nD Cert.KernelSeamIdeal.τ).loc Cert.KernelSeamIdeal.main_arg5)
          ∧ r.2.mem ((c.tc : Thread Cert.KernelSeamIdeal.nD Cert.KernelSeamIdeal.τ).loc Cert.KernelSeamIdeal.main_arg6) = m ((c.tc : Thread Cert.KernelSeamIdeal.nD Cert.KernelSeamIdeal.τ).loc Cert.KernelSeamIdeal.main_arg6)
          ∧ r.2.mem ((c.tc : Thread Cert.KernelSeamIdeal.nD Cert.KernelSeamIdeal.τ).loc Cert.KernelSeamIdeal.main_arg7) = m ((c.tc : Thread Cert.KernelSeamIdeal.nD Cert.KernelSeamIdeal.τ).loc Cert.KernelSeamIdeal.main_arg7)
          ∧ r.2.mem ((c.tc : Thread Cert.KernelSeamIdeal.nD Cert.KernelSeamIdeal.τ).loc Cert.KernelSeamIdeal.main_arg8) = m ((c.tc : Thread Cert.KernelSeamIdeal.nD Cert.KernelSeamIdeal.τ).loc Cert.KernelSeamIdeal.main_arg8)
          ∧ r.2.mem ((c.tc : Thread Cert.KernelSeamIdeal.nD Cert.KernelSeamIdeal.τ).loc Cert.KernelSeamIdeal.main_arg9) = m ((c.tc : Thread Cert.KernelSeamIdeal.nD Cert.KernelSeamIdeal.τ).loc Cert.KernelSeamIdeal.main_arg9)
          ∧ r.2.mem ((c.tc : Thread Cert.KernelSeamIdeal.nD Cert.KernelSeamIdeal.τ).loc Cert.KernelSeamIdeal.main_arg10) = m ((c.tc : Thread Cert.KernelSeamIdeal.nD Cert.KernelSeamIdeal.τ).loc Cert.KernelSeamIdeal.main_arg10))
      ∧ θ_run (Cert.ReferenceSeamIdeal.defs (F := Ideal)) (onTc (τ := Cert.ReferenceSeamIdeal.τ) (Cert.ReferenceSeamIdeal.main (F := Ideal))) ⟨m', fun _ => 0, g'⟩ (fun r => ∀ c : Dev Cert.ReferenceSeamIdeal.nD,
          r.2.mem ((c.tc : Thread Cert.ReferenceSeamIdeal.nD Cert.ReferenceSeamIdeal.τ).loc Cert.ReferenceSeamIdeal.main_v57) = v0 c
          ∧ r.2.mem ((c.tc : Thread Cert.ReferenceSeamIdeal.nD Cert.ReferenceSeamIdeal.τ).loc Cert.ReferenceSeamIdeal.main_v73) = v1 c
          ∧ r.2.mem ((c.tc : Thread Cert.ReferenceSeamIdeal.nD Cert.ReferenceSeamIdeal.τ).loc Cert.ReferenceSeamIdeal.main_arg0) = m' ((c.tc : Thread Cert.ReferenceSeamIdeal.nD Cert.ReferenceSeamIdeal.τ).loc Cert.ReferenceSeamIdeal.main_arg0)
          ∧ r.2.mem ((c.tc : Thread Cert.ReferenceSeamIdeal.nD Cert.ReferenceSeamIdeal.τ).loc Cert.ReferenceSeamIdeal.main_arg1) = m' ((c.tc : Thread Cert.ReferenceSeamIdeal.nD Cert.ReferenceSeamIdeal.τ).loc Cert.ReferenceSeamIdeal.main_arg1)
          ∧ r.2.mem ((c.tc : Thread Cert.ReferenceSeamIdeal.nD Cert.ReferenceSeamIdeal.τ).loc Cert.ReferenceSeamIdeal.main_arg2) = m' ((c.tc : Thread Cert.ReferenceSeamIdeal.nD Cert.ReferenceSeamIdeal.τ).loc Cert.ReferenceSeamIdeal.main_arg2)
          ∧ r.2.mem ((c.tc : Thread Cert.ReferenceSeamIdeal.nD Cert.ReferenceSeamIdeal.τ).loc Cert.ReferenceSeamIdeal.main_arg3) = m' ((c.tc : Thread Cert.ReferenceSeamIdeal.nD Cert.ReferenceSeamIdeal.τ).loc Cert.ReferenceSeamIdeal.main_arg3)
          ∧ r.2.mem ((c.tc : Thread Cert.ReferenceSeamIdeal.nD Cert.ReferenceSeamIdeal.τ).loc Cert.ReferenceSeamIdeal.main_arg4) = m' ((c.tc : Thread Cert.ReferenceSeamIdeal.nD Cert.ReferenceSeamIdeal.τ).loc Cert.ReferenceSeamIdeal.main_arg4)
          ∧ r.2.mem ((c.tc : Thread Cert.ReferenceSeamIdeal.nD Cert.ReferenceSeamIdeal.τ).loc Cert.ReferenceSeamIdeal.main_arg5) = m' ((c.tc : Thread Cert.ReferenceSeamIdeal.nD Cert.ReferenceSeamIdeal.τ).loc Cert.ReferenceSeamIdeal.main_arg5)
          ∧ r.2.mem ((c.tc : Thread Cert.ReferenceSeamIdeal.nD Cert.ReferenceSeamIdeal.τ).loc Cert.ReferenceSeamIdeal.main_arg6) = m' ((c.tc : Thread Cert.ReferenceSeamIdeal.nD Cert.ReferenceSeamIdeal.τ).loc Cert.ReferenceSeamIdeal.main_arg6)
          ∧ r.2.mem ((c.tc : Thread Cert.ReferenceSeamIdeal.nD Cert.ReferenceSeamIdeal.τ).loc Cert.ReferenceSeamIdeal.main_arg7) = m' ((c.tc : Thread Cert.ReferenceSeamIdeal.nD Cert.ReferenceSeamIdeal.τ).loc Cert.ReferenceSeamIdeal.main_arg7)
          ∧ r.2.mem ((c.tc : Thread Cert.ReferenceSeamIdeal.nD Cert.ReferenceSeamIdeal.τ).loc Cert.ReferenceSeamIdeal.main_arg8) = m' ((c.tc : Thread Cert.ReferenceSeamIdeal.nD Cert.ReferenceSeamIdeal.τ).loc Cert.ReferenceSeamIdeal.main_arg8)
          ∧ r.2.mem ((c.tc : Thread Cert.ReferenceSeamIdeal.nD Cert.ReferenceSeamIdeal.τ).loc Cert.ReferenceSeamIdeal.main_arg9) = m' ((c.tc : Thread Cert.ReferenceSeamIdeal.nD Cert.ReferenceSeamIdeal.τ).loc Cert.ReferenceSeamIdeal.main_arg9)
          ∧ r.2.mem ((c.tc : Thread Cert.ReferenceSeamIdeal.nD Cert.ReferenceSeamIdeal.τ).loc Cert.ReferenceSeamIdeal.main_arg10) = m' ((c.tc : Thread Cert.ReferenceSeamIdeal.nD Cert.ReferenceSeamIdeal.τ).loc Cert.ReferenceSeamIdeal.main_arg10))

def Claim : Prop :=
  ∃ (hKernelMixer : Cert.KernelMixer.Facts) (hKernelMixerIdeal : Cert.KernelMixerIdeal.Facts) (hKernelNormed : Cert.KernelNormed.Facts) (hKernelNormedIdeal : Cert.KernelNormedIdeal.Facts) (hReferenceNormedIdeal : Cert.ReferenceNormedIdeal.Facts) (hKernelPlain : Cert.KernelPlain.Facts) (hKernelPlainIdeal : Cert.KernelPlainIdeal.Facts) (hReferencePlainIdeal : Cert.ReferencePlainIdeal.Facts) (hKernelFinal : Cert.KernelFinal.Facts) (hKernelFinalIdeal : Cert.KernelFinalIdeal.Facts) (hReferenceFinalIdeal : Cert.ReferenceFinalIdeal.Facts) (hKernelNext : Cert.KernelNext.Facts) (hKernelNextIdeal : Cert.KernelNextIdeal.Facts) (hReferenceNextIdeal : Cert.ReferenceNextIdeal.Facts) (hKernelSeam : Cert.KernelSeam.Facts) (hKernelSeamIdeal : Cert.KernelSeamIdeal.Facts) (hReferenceSeamIdeal : Cert.ReferenceSeamIdeal.Facts),
    quiescent_KernelMixer (hKernelMixer := hKernelMixer)
    ∧ quiescent_KernelMixerIdeal (hKernelMixerIdeal := hKernelMixerIdeal)
    ∧ quiescent_KernelNormed (hKernelNormed := hKernelNormed)
    ∧ quiescent_KernelNormedIdeal (hKernelNormedIdeal := hKernelNormedIdeal)
    ∧ quiescent_ReferenceNormedIdeal (hReferenceNormedIdeal := hReferenceNormedIdeal)
    ∧ quiescent_KernelPlain (hKernelPlain := hKernelPlain)
    ∧ quiescent_KernelPlainIdeal (hKernelPlainIdeal := hKernelPlainIdeal)
    ∧ quiescent_ReferencePlainIdeal (hReferencePlainIdeal := hReferencePlainIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelNext (hKernelNext := hKernelNext)
    ∧ quiescent_KernelNextIdeal (hKernelNextIdeal := hKernelNextIdeal)
    ∧ quiescent_ReferenceNextIdeal (hReferenceNextIdeal := hReferenceNextIdeal)
    ∧ quiescent_KernelSeam (hKernelSeam := hKernelSeam)
    ∧ quiescent_KernelSeamIdeal (hKernelSeamIdeal := hKernelSeamIdeal)
    ∧ quiescent_ReferenceSeamIdeal (hReferenceSeamIdeal := hReferenceSeamIdeal)
    ∧ preserves_KernelMixer_KernelMixerIdeal
    ∧ preserves_KernelNormed_KernelNormedIdeal
    ∧ algebraic_KernelNormedIdeal_ReferenceNormedIdeal (hKernelNormedIdeal := hKernelNormedIdeal) (hReferenceNormedIdeal := hReferenceNormedIdeal)
    ∧ preserves_KernelPlain_KernelPlainIdeal
    ∧ algebraic_KernelPlainIdeal_ReferencePlainIdeal (hKernelPlainIdeal := hKernelPlainIdeal) (hReferencePlainIdeal := hReferencePlainIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelNext_KernelNextIdeal
    ∧ algebraic_KernelNextIdeal_ReferenceNextIdeal (hKernelNextIdeal := hKernelNextIdeal) (hReferenceNextIdeal := hReferenceNextIdeal)
    ∧ preserves_KernelSeam_KernelSeamIdeal
    ∧ algebraic_KernelSeamIdeal_ReferenceSeamIdeal (hKernelSeamIdeal := hKernelSeamIdeal) (hReferenceSeamIdeal := hReferenceSeamIdeal)
-- ==== KernelMixer.lean ====
abbrev S32768x1024 : Shape := ⟨2, ![32768, 1024]⟩
abbrev S2x1024x6168 : Shape := ⟨3, ![2, 1024, 6168]⟩
abbrev S2x2048x1024 : Shape := ⟨3, ![2, 2048, 1024]⟩
abbrev S2x4x1024 : Shape := ⟨3, ![2, 4, 1024]⟩
abbrev S2x1024 : Shape := ⟨2, ![2, 1024]⟩
abbrev S2x8 : Shape := ⟨2, ![2, 8]⟩
abbrev S2x512 : Shape := ⟨2, ![2, 512]⟩
abbrev S2x4x2048 : Shape := ⟨3, ![2, 4, 2048]⟩
abbrev S2x2048 : Shape := ⟨2, ![2, 2048]⟩
abbrev S2x16 : Shape := ⟨2, ![2, 16]⟩
abbrev S2x31x512 : Shape := ⟨3, ![2, 31, 512]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1024 : Shape := ⟨1, ![1024]⟩
abbrev S_ : Shape := ⟨0, ![]⟩
abbrev S1x1024 : Shape := ⟨2, ![1, 1024]⟩
abbrev S128x1024 : Shape := ⟨2, ![128, 1024]⟩
abbrev S2x1024x2048 : Shape := ⟨3, ![2, 1024, 2048]⟩
abbrev S2x1024x1024 : Shape := ⟨3, ![2, 1024, 1024]⟩
abbrev S2x1024x8 : Shape := ⟨3, ![2, 1024, 8]⟩
abbrev S2x1024x128 : Shape := ⟨3, ![2, 1024, 128]⟩
abbrev S2x1024x16 : Shape := ⟨3, ![2, 1024, 16]⟩
abbrev S2x1024x6400 : Shape := ⟨3, ![2, 1024, 6400]⟩
abbrev S2x1x1024 : Shape := ⟨3, ![2, 1, 1024]⟩
abbrev S2x8x1 : Shape := ⟨3, ![2, 8, 1]⟩
abbrev S2x8x128 : Shape := ⟨3, ![2, 8, 128]⟩
abbrev S2x1x512 : Shape := ⟨3, ![2, 1, 512]⟩
abbrev S2x1x2048 : Shape := ⟨3, ![2, 1, 2048]⟩
abbrev S2x16x1 : Shape := ⟨3, ![2, 16, 1]⟩
abbrev S2x16x128 : Shape := ⟨3, ![2, 16, 128]⟩
abbrev S2x1x16 : Shape := ⟨3, ![2, 1, 16]⟩
abbrev S2x1x128 : Shape := ⟨3, ![2, 1, 128]⟩
abbrev S2x16x64 : Shape := ⟨3, ![2, 16, 64]⟩
abbrev S512x1024 : Shape := ⟨2, ![512, 1024]⟩
abbrev S1x1024x6400 : Shape := ⟨3, ![1, 1024, 6400]⟩
abbrev S1x2048x1024 : Shape := ⟨3, ![1, 2048, 1024]⟩
abbrev S1x4x1024 : Shape := ⟨3, ![1, 4, 1024]⟩
abbrev S1x1x1024 : Shape := ⟨3, ![1, 1, 1024]⟩
abbrev S1x8x128 : Shape := ⟨3, ![1, 8, 128]⟩
abbrev S1x1x512 : Shape := ⟨3, ![1, 1, 512]⟩
abbrev S1x4x2048 : Shape := ⟨3, ![1, 4, 2048]⟩
abbrev S1x1x2048 : Shape := ⟨3, ![1, 1, 2048]⟩
abbrev S1x16x128 : Shape := ⟨3, ![1, 16, 128]⟩
abbrev S1x1x128 : Shape := ⟨3, ![1, 1, 128]⟩
abbrev S1x31x512 : Shape := ⟨3, ![1, 31, 512]⟩
abbrev S520x1024 : Shape := ⟨2, ![520, 1024]⟩
abbrev S520x2048 : Shape := ⟨2, ![520, 2048]⟩
abbrev S544x512 : Shape := ⟨2, ![544, 512]⟩
abbrev S4x128x256 : Shape := ⟨3, ![4, 128, 256]⟩
abbrev S4x8x128 : Shape := ⟨3, ![4, 8, 128]⟩
abbrev S512x2048 : Shape := ⟨2, ![512, 2048]⟩
abbrev S2x128x6400 : Shape := ⟨3, ![2, 128, 6400]⟩
abbrev S1x1024x256 : Shape := ⟨3, ![1, 1024, 256]⟩
abbrev S1024x256 : Shape := ⟨2, ![1024, 256]⟩
abbrev S128x256 : Shape := ⟨2, ![128, 256]⟩
abbrev S1x128x6400 : Shape := ⟨3, ![1, 128, 6400]⟩
abbrev S128x6400 : Shape := ⟨2, ![128, 6400]⟩
abbrev S8x1024 : Shape := ⟨2, ![8, 1024]⟩
abbrev S8x2048 : Shape := ⟨2, ![8, 2048]⟩
abbrev S32x512 : Shape := ⟨2, ![32, 512]⟩
abbrev S136x512 : Shape := ⟨2, ![136, 512]⟩
abbrev S1x512 : Shape := ⟨2, ![1, 512]⟩
abbrev S128x512 : Shape := ⟨2, ![128, 512]⟩
abbrev S128x2048 : Shape := ⟨2, ![128, 2048]⟩
abbrev S16x128 : Shape := ⟨2, ![16, 128]⟩
abbrev S112x128 : Shape := ⟨2, ![112, 128]⟩
abbrev S8x128 : Shape := ⟨2, ![8, 128]⟩
abbrev S136x256 : Shape := ⟨2, ![136, 256]⟩
abbrev S1x1x256 : Shape := ⟨3, ![1, 1, 256]⟩
abbrev S1x256 : Shape := ⟨2, ![1, 256]⟩
abbrev S136x128 : Shape := ⟨2, ![136, 128]⟩
abbrev S160x128 : Shape := ⟨2, ![160, 128]⟩
abbrev S120x128 : Shape := ⟨2, ![120, 128]⟩
abbrev S512x256 : Shape := ⟨2, ![512, 256]⟩
abbrev S8x256 : Shape := ⟨2, ![8, 256]⟩
abbrev S1x1x1 : Shape := ⟨3, ![1, 1, 1]⟩
abbrev S1x1 : Shape := ⟨2, ![1, 1]⟩
abbrev S1x128x256 : Shape := ⟨3, ![1, 128, 256]⟩
abbrev S256x256 : Shape := ⟨2, ![256, 256]⟩
abbrev S1 : Shape := ⟨1, ![1]⟩
abbrev S2048x1024 : Shape := ⟨2, ![2048, 1024]⟩

abbrev nBuf : Space → Nat
  | .hbm => 88
  | .vmem => 36
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x1024x6168, .f32⟩
  | .hbm, ⟨3, _⟩ => ⟨S2x2048x1024, .f32⟩
  | .hbm, ⟨4, _⟩ => ⟨S2x4x1024, .f32⟩
  | .hbm, ⟨5, _⟩ => ⟨S2x1024, .f32⟩
  | .hbm, ⟨6, _⟩ => ⟨S2x8, .f32⟩
  | .hbm, ⟨7, _⟩ => ⟨S2x512, .f32⟩
  | .hbm, ⟨8, _⟩ => ⟨S2x4x2048, .f32⟩
  | .hbm, ⟨9, _⟩ => ⟨S2x2048, .f32⟩
  | .hbm, ⟨10, _⟩ => ⟨S2x16, .f32⟩
  | .hbm, ⟨11, _⟩ => ⟨S2x16, .f32⟩
  | .hbm, ⟨12, _⟩ => ⟨S2x16, .f32⟩
  | .hbm, ⟨13, _⟩ => ⟨S2x1024, .f32⟩
  | .hbm, ⟨14, _⟩ => ⟨S2x31x512, .f32⟩
  | .hbm, ⟨15, _⟩ => ⟨S2x512, .f32⟩
  | .hbm, ⟨16, _⟩ => ⟨S2x512, .f32⟩
  | .hbm, ⟨17, _⟩ => ⟨S2x512, .f32⟩
  | .hbm, ⟨18, _⟩ => ⟨S128, .i32⟩
  | .hbm, ⟨19, _⟩ => ⟨S1x128, .i32⟩
  | .hbm, ⟨20, _⟩ => ⟨S128x1, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S128x128, .bf16⟩
  | .hbm, ⟨25, _⟩ => ⟨S1024, .i32⟩
  | .hbm, ⟨26, _⟩ => ⟨S_, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S128, .i32⟩
  | .hbm, ⟨45, _⟩ => ⟨S128x1, .i32⟩
  | .hbm, ⟨46, _⟩ => ⟨S1x1024, .i32⟩
  | .hbm, ⟨47, _⟩ => ⟨S128x1024, .i32⟩
  | .hbm, ⟨48, _⟩ => ⟨S128x1024, .i32⟩
  | .hbm, ⟨49, _⟩ => ⟨S128x1024, .i1⟩
  | .hbm, ⟨50, _⟩ => ⟨S128x1024, .bf16⟩
  | .hbm, ⟨51, _⟩ => ⟨S2x1024x2048, .f32⟩
  | .hbm, ⟨52, _⟩ => ⟨S2x1024x2048, .f32⟩
  | .hbm, ⟨53, _⟩ => ⟨S2x1024x1024, .f32⟩
  | .hbm, ⟨54, _⟩ => ⟨S2x1024x1024, .f32⟩
  | .hbm, ⟨55, _⟩ => ⟨S2x1024x8, .f32⟩
  | .hbm, ⟨56, _⟩ => ⟨S_, .i32⟩
  | .hbm, ⟨57, _⟩ => ⟨S_, .f32⟩
  | .hbm, ⟨58, _⟩ => ⟨S2x1024x128, .f32⟩
  | .hbm, ⟨59, _⟩ => ⟨S2x1024x16, .f32⟩
  | .hbm, ⟨60, _⟩ => ⟨S_, .i32⟩
  | .hbm, ⟨61, _⟩ => ⟨S_, .f32⟩
  | .hbm, ⟨62, _⟩ => ⟨S2x1024x128, .f32⟩
  | .hbm, ⟨63, _⟩ => ⟨S2x1024x6400, .f32⟩
  | .hbm, ⟨64, _⟩ => ⟨S2x1024x6400, .bf16⟩
  | .hbm, ⟨65, _⟩ => ⟨S2x2048x1024, .bf16⟩
  | .hbm, ⟨66, _⟩ => ⟨S2x1x1024, .f32⟩
  | .hbm, ⟨67, _⟩ => ⟨S2x8x1, .f32⟩
  | .hbm, ⟨68, _⟩ => ⟨S2x8x128, .f32⟩
  | .hbm, ⟨69, _⟩ => ⟨S2x1x512, .f32⟩
  | .hbm, ⟨70, _⟩ => ⟨S2x1x2048, .f32⟩
  | .hbm, ⟨71, _⟩ => ⟨S2x16x1, .f32⟩
  | .hbm, ⟨72, _⟩ => ⟨S2x16x128, .f32⟩
  | .hbm, ⟨73, _⟩ => ⟨S2x1x16, .f32⟩
  | .hbm, ⟨74, _⟩ => ⟨S_, .i32⟩
  | .hbm, ⟨75, _⟩ => ⟨S_, .f32⟩
  | .hbm, ⟨76, _⟩ => ⟨S2x1x128, .f32⟩
  | .hbm, ⟨77, _⟩ => ⟨S2x16x1, .f32⟩
  | .hbm, ⟨78, _⟩ => ⟨S2x16x128, .f32⟩
  | .hbm, ⟨79, _⟩ => ⟨S2x16x64, .f32⟩
  | .hbm, ⟨80, _⟩ => ⟨S2x1024, .f32⟩
  | .hbm, ⟨81, _⟩ => ⟨S2x1x1024, .f32⟩
  | .hbm, ⟨82, _⟩ => ⟨S2x1x1024, .f32⟩
  | .hbm, ⟨83, _⟩ => ⟨S2x1x512, .f32⟩
  | .hbm, ⟨84, _⟩ => ⟨S2x1x512, .f32⟩
  | .hbm, ⟨85, _⟩ => ⟨S2x1x512, .f32⟩
  | .hbm, ⟨86, _⟩ => ⟨S128x128, .bf16⟩
  | .hbm, ⟨87, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S128x1024, .bf16⟩
  | .local _ .vmem, ⟨5, _⟩ => ⟨S128x1024, .bf16⟩
  | .local _ .vmem, ⟨6, _⟩ => ⟨S1x1024x6400, .bf16⟩
  | .local _ .vmem, ⟨7, _⟩ => ⟨S1x2048x1024, .bf16⟩
  | .local _ .vmem, ⟨8, _⟩ => ⟨S1x4x1024, .f32⟩
  | .local _ .vmem, ⟨9, _⟩ => ⟨S1x1x1024, .f32⟩
  | .local _ .vmem, ⟨10, _⟩ => ⟨S1x8x128, .f32⟩
  | .local _ .vmem, ⟨11, _⟩ => ⟨S1x1x512, .f32⟩
  | .local _ .vmem, ⟨12, _⟩ => ⟨S1x4x2048, .f32⟩
  | .local _ .vmem, ⟨13, _⟩ => ⟨S1x1x2048, .f32⟩
  | .local _ .vmem, ⟨14, _⟩ => ⟨S1x16x128, .f32⟩
  | .local _ .vmem, ⟨15, _⟩ => ⟨S1x1x128, .f32⟩
  | .local _ .vmem, ⟨16, _⟩ => ⟨S1x16x128, .f32⟩
  | .local _ .vmem, ⟨17, _⟩ => ⟨S1x1x1024, .f32⟩
  | .local _ .vmem, ⟨18, _⟩ => ⟨S1x1x1024, .f32⟩
  | .local _ .vmem, ⟨19, _⟩ => ⟨S1x31x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S128x128, .bf16⟩
  | .local _ .vmem, ⟨24, _⟩ => ⟨S128x128, .bf16⟩
  | .local _ .vmem, ⟨25, _⟩ => ⟨S128x1024, .bf16⟩
  | .local _ .vmem, ⟨26, _⟩ => ⟨S512x1024, .f32⟩
  | .local _ .vmem, ⟨27, _⟩ => ⟨S512x1024, .f32⟩
  | .local _ .vmem, ⟨28, _⟩ => ⟨S520x1024, .f32⟩
  | .local _ .vmem, ⟨29, _⟩ => ⟨S520x2048, .f32⟩
  | .local _ .vmem, ⟨30, _⟩ => ⟨S544x512, .f32⟩
  | .local _ .vmem, ⟨31, _⟩ => ⟨S4x128x256, .f32⟩
  | .local _ .vmem, ⟨32, _⟩ => ⟨S4x8x128, .f32⟩
  | .local _ .vmem, ⟨33, _⟩ => ⟨S128x1024, .f32⟩
  | .local _ .vmem, ⟨34, _⟩ => ⟨S512x2048, .bf16⟩
  | .local _ .vmem, ⟨35, _⟩ => ⟨S2x128x6400, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_c_0 : Ref sig .tc := ⟨.hbm, 56, rfl⟩
abbrev main_call1_v0 : Ref sig .tc := ⟨.hbm, 57, rfl⟩
abbrev main_v21 : Ref sig .tc := ⟨.hbm, 58, rfl⟩
abbrev main_v22 : Ref sig .tc := ⟨.hbm, 59, rfl⟩
abbrev main_c_1 : Ref sig .tc := ⟨.hbm, 60, rfl⟩
abbrev main_call2_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_2 : Ref sig .tc := ⟨.hbm, 74, rfl⟩
abbrev main_call3_v0 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg23_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.addi v1 c1_i32
  let c4_i32 : BitVec 32 := 4#32
  let v3 : BitVec 32 := Scalar.muli v2 c4_i32
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x6400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x31x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S128x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== KernelNormed.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024, .f32⟩
  | .hbm, ⟨6, _⟩ => ⟨S2x1x1024, .f32⟩
  | .hbm, ⟨7, _⟩ => ⟨S2x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S32768x1024, .f32⟩
  | .hbm, ⟨12, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceNormedIdeal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024, .f32⟩
  | .hbm, ⟨6, _⟩ => ⟨S1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== KernelPlain.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S2x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencePlainIdeal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== KernelFinal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S2x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFinalIdeal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 63
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== KernelNext.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024, .f32⟩
  | .hbm, ⟨6, _⟩ => ⟨S2x1x1024, .f32⟩
  | .hbm, ⟨7, _⟩ => ⟨S2x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S32768x1024, .f32⟩
  | .hbm, ⟨12, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceNextIdeal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024, .f32⟩
  | .hbm, ⟨6, _⟩ => ⟨S1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== KernelSeam.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 24
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S1024, .f32⟩
  | .hbm, ⟨10, _⟩ => ⟨S2x1024, .f32⟩
  | .hbm, ⟨11, _⟩ => ⟨S1x1024, .f32⟩
  | .hbm, ⟨12, _⟩ => ⟨S2x1x1024, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S32768x1024, .f32⟩
  | .hbm, ⟨17, _⟩ => ⟨S2x1x1024, .f32⟩
  | .hbm, ⟨18, _⟩ => ⟨S2x1x1024, .f32⟩
  | .hbm, ⟨19, _⟩ => ⟨S2x1024x2816, .bf16⟩
  | .hbm, ⟨20, _⟩ => ⟨S2x1024x2816, .bf16⟩
  | .hbm, ⟨21, _⟩ => ⟨S2x2816x1024, .bf16⟩
  | .hbm, ⟨22, _⟩ => ⟨S32768x1024, .f32⟩
  | .hbm, ⟨23, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1024x2816, .bf16⟩
  | .local _ .vmem, ⟨13, _⟩ => ⟨S1x1024x2816, .bf16⟩
  | .local _ .vmem, ⟨14, _⟩ => ⟨S1x2816x1024, .bf16⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024x2816 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024x2816 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2816x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceSeamIdeal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 112
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S1024, .f32⟩
  | .hbm, ⟨10, _⟩ => ⟨S2x1024, .f32⟩
  | .hbm, ⟨11, _⟩ => ⟨S1x1024, .f32⟩
  | .hbm, ⟨12, _⟩ => ⟨S1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1x1024x2816, .f32⟩
  | .hbm, ⟨30, _⟩ => ⟨S1024x2816, .f32⟩
  | .hbm, ⟨31, _⟩ => ⟨S1x1024x2816, .f32⟩
  | .hbm, ⟨32, _⟩ => ⟨S1024x2816, .f32⟩
  | .hbm, ⟨33, _⟩ => ⟨S1x2816x1024, .f32⟩
  | .hbm, ⟨34, _⟩ => ⟨S2816x1024, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S_, .f32⟩
  | .hbm, ⟨39, _⟩ => ⟨S32768x2816, .f32⟩
  | .hbm, ⟨40, _⟩ => ⟨S32768x2816, .f32⟩
  | .hbm, ⟨41, _⟩ => ⟨S_, .f32⟩
  | .hbm, ⟨42, _⟩ => ⟨S32768x2816, .f32⟩
  | .hbm, ⟨43, _⟩ => ⟨S32768x2816, .f32⟩
  | .hbm, ⟨44, _⟩ => ⟨S32768x2816, .f32⟩
  | .hbm, ⟨45, _⟩ => ⟨S32768x2816, .f32⟩
  | .hbm, ⟨46, _⟩ => ⟨S32768x2816, .f32⟩
  | .hbm, ⟨47, _⟩ => ⟨S32768x1024, .f32⟩
  | .hbm, ⟨48, _⟩ => ⟨S_, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S1024, .f32⟩
  | .hbm, ⟨54, _⟩ => ⟨S32768x1024, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1, .f32⟩
  | .hbm, ⟨65, _⟩ => ⟨S32768x1024, .f32⟩
  | .hbm, ⟨66, _⟩ => ⟨S32768x1024, .f32⟩
  | .hbm, ⟨67, _⟩ => ⟨S1x1024, .f32⟩
  | .hbm, ⟨68, _⟩ => ⟨S32768x1024, .f32⟩
  | .hbm, ⟨69, _⟩ => ⟨S32768x1024, .f32⟩
  | .hbm, ⟨70, _⟩ => ⟨S1x1024x2816, .f32⟩
  | .hbm, ⟨71, _⟩ => ⟨S1024x2816, .f32⟩
  | .hbm, ⟨72, _⟩ => ⟨S1x1024x2816, .f32⟩
  | .hbm, ⟨73, _⟩ => ⟨S1024x2816, .f32⟩
  | .hbm, ⟨74, _⟩ => ⟨S1x2816x1024, .f32⟩
  | .hbm, ⟨75, _⟩ => ⟨S2816x1024, .f32⟩
  | .hbm, ⟨76, _⟩ => ⟨S32768x2816, .f32⟩
  | .hbm, ⟨77, _⟩ => ⟨S32768x2816, .f32⟩
  | .hbm, ⟨78, _⟩ => ⟨S32768x2816, .f32⟩
  | .hbm, ⟨79, _⟩ => ⟨S_, .f32⟩
  | .hbm, ⟨80, _⟩ => ⟨S32768x2816, .f32⟩
  | .hbm, ⟨81, _⟩ => ⟨S32768x2816, .f32⟩
  | .hbm, ⟨82, _⟩ => ⟨S_, .f32⟩
  | .hbm, ⟨83, _⟩ => ⟨S32768x2816, .f32⟩
  | .hbm, ⟨84, _⟩ => ⟨S32768x2816, .f32⟩
  | .hbm, ⟨85, _⟩ => ⟨S32768x2816, .f32⟩
  | .hbm, ⟨86, _⟩ => ⟨S32768x2816, .f32⟩
  | .hbm, ⟨87, _⟩ => ⟨S32768x2816, .f32⟩
  | .hbm, ⟨88, _⟩ => ⟨S32768x1024, .f32⟩
  | .hbm, ⟨89, _⟩ => ⟨S_, .f32⟩
  | .hbm, ⟨90, _⟩ => ⟨S32768x1024, .f32⟩
  | .hbm, ⟨91, _⟩ => ⟨S32768x1024, .f32⟩
  | .hbm, ⟨92, _⟩ => ⟨S32768x1024, .f32⟩
  | .hbm, ⟨93, _⟩ => ⟨S1x1024, .f32⟩
  | .hbm, ⟨94, _⟩ => ⟨S1024, .f32⟩
  | .hbm, ⟨95, _⟩ => ⟨S32768x1024, .f32⟩
  | .hbm, ⟨96, _⟩ => ⟨S_, .f32⟩
  | .hbm, ⟨97, _⟩ => ⟨S32768, .f32⟩
  | .hbm, ⟨98, _⟩ => ⟨S32768x1, .f32⟩
  | .hbm, ⟨99, _⟩ => ⟨S_, .f32⟩
  | .hbm, ⟨100, _⟩ => ⟨S32768x1, .f32⟩
  | .hbm, ⟨101, _⟩ => ⟨S32768x1, .f32⟩
  | .hbm, ⟨102, _⟩ => ⟨S_, .f32⟩
  | .hbm, ⟨103, _⟩ => ⟨S32768x1, .f32⟩
  | .hbm, ⟨104, _⟩ => ⟨S32768x1, .f32⟩
  | .hbm, ⟨105, _⟩ => ⟨S32768x1, .f32⟩
  | .hbm, ⟨106, _⟩ => ⟨S32768x1024, .f32⟩
  | .hbm, ⟨107, _⟩ => ⟨S32768x1024, .f32⟩
  | .hbm, ⟨108, _⟩ => ⟨S1x1024, .f32⟩
  | .hbm, ⟨109, _⟩ => ⟨S32768x1024, .f32⟩
  | .hbm, ⟨110, _⟩ => ⟨S32768x1024, .f32⟩
  | .hbm, ⟨111, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_6 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_7 : Ref sig .tc := ⟨.hbm, 96, rfl⟩
abbrev main_v61 : Ref sig .tc := ⟨.hbm, 97, rfl⟩
abbrev main_v62 : Ref sig .tc := ⟨.hbm, 98, rfl⟩
abbrev main_cst_8 : Ref sig .tc := ⟨.hbm, 99, rfl⟩
abbrev main_v63 : Ref sig .tc := ⟨.hbm, 100, rfl⟩
abbrev main_v64 : Ref sig .tc := ⟨.hbm, 101, rfl⟩
abbrev main_cst_9 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩

abbrev nD : Nat := 1
abbrev τ : Topo := Topo.v7x

variable {F : FTy → Type} [FloatOps F]
-- ==== Proof.MixerFrameIdeal.lean ====
/-
  The frame of the mixer call at the extended reals: it terminates, nothing faults, the arguments end as they were and every
  semaphore is back at zero. Nothing is said here of what the call computes, so every window is forgotten: the body finds
  any contents and leaves any contents, and the scratch buffers are carried between points at contents nobody names.
-/
module

public import proofs.«01_k».proof.Proof.Gen.KernelMixerIdeal.Skeleton
public import proofs.«01_k».proof.Proof.Gen.KernelMixerIdeal.Launch
public import proofs.«01_k».proof.Proof.Gen.KernelMixerIdeal.Points
public import proofs.«01_k».proof.Proof.Gen.KernelMixerIdeal.Frame
public import Idealize.ShloMosaic.Lib.Pipeline.Frame
public import Idealize.ShloMosaic.Lib.Quiescent
public import Idealize.ShloMosaic.Lib.Tactic

@[expose] public section

set_option maxRecDepth 16384

noncomputable section

namespace Cert.MixerFrameIdeal

open Cert.KernelMixerIdeal Cert.KernelMixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer of a memref held whole at some contents. -/
abbrev any (c : Dev nD) {sp : Space} {S : Shape} {e : EltTy} (M : Memref sig .tc sp S e) : sProp 𝕄 :=
  iprop(∃ d, owns (c : Thread nD τ) M fullShare d)

/-- A whole buffer held at some contents, its points-to taken out and put back. -/
theorem any_out (c : Dev nD) {sp : Space} {S : Shape} {e : EltTy} (M : Memref sig .tc sp S e) (h : M.IsWhole) :
    any (F := F) c M ⊢ iprop(∃ f : Buf (Elt F) (M.view.loc (c : Thread nD τ)), M.view.loc (c : Thread nD τ) ↦{fullShare} f) := by
  unfold any owns
  rw [h.set_eq_univ]
  iintro ⟨%d, %f, -, H⟩
  iexists f
  iexact H

theorem any_of (c : Dev nD) {sp : Space} {S : Shape} {e : EltTy} (M : Memref sig .tc sp S e) (h : M.IsWhole)
    (f : Buf (Elt F) (M.view.loc (c : Thread nD τ))) :
    (M.view.loc (c : Thread nD τ) ↦{fullShare} f : sProp 𝕄) ⊢ any c M := by
  unfold any owns
  rw [h.set_eq_univ]
  iintro H
  iexists (M.view.read (Elt F) f)
  iexists f
  isplitr
  · ipureintro; rfl
  iexact H

/-- The first point of the grid, and the first point of a sequence, as the body asks for them. -/
abbrev AtStart (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1
abbrev AtRowStart (i : grid0.Coords) : Prop :=
  Scalar.cmpi .ne (Scalar.extui (Scalar.cmpi .eq (BitVec.ofNat 32 (i 1).val) 0#32)) 0#32 = 1#1

/-- The body's triple: from every operand at any contents it runs to its return and hands every operand back. -/
theorem run (c : Dev nD) (i : grid0.Coords)
    (M0 : Memref sig .tc .vmem S512x1024 .f32) (h0 : M0.IsWhole)
    (M1 : Memref sig .tc .vmem S512x1024 .bf16) (h1 : M1.IsWhole)
    (M2 : Memref sig .tc .vmem S128x1024 .bf16) (h2 : M2.IsWhole)
    (M3 : Memref sig .tc .vmem S1x1024x6400 .bf16) (h3 : M3.IsWhole)
    (M4 : Memref sig .tc .vmem S1x2048x1024 .bf16) (h4 : M4.IsWhole)
    (M5 : Memref sig .tc .vmem S1x4x1024 .f32) (h5 : M5.IsWhole)
    (M6 : Memref sig .tc .vmem S1x1x1024 .f32) (h6 : M6.IsWhole)
    (M7 : Memref sig .tc .vmem S1x8x128 .f32) (h7 : M7.IsWhole)
    (M8 : Memref sig .tc .vmem S1x1x512 .f32) (h8 : M8.IsWhole)
    (M9 : Memref sig .tc .vmem S1x4x2048 .f32) (h9 : M9.IsWhole)
    (M10 : Memref sig .tc .vmem S1x1x2048 .f32) (h10 : M10.IsWhole)
    (M11 : Memref sig .tc .vmem S1x16x128 .f32) (h11 : M11.IsWhole)
    (M12 : Memref sig .tc .vmem S1x1x128 .f32) (h12 : M12.IsWhole)
    (M13 : Memref sig .tc .vmem S1x16x128 .f32) (h13 : M13.IsWhole)
    (M14 : Memref sig .tc .vmem S1x1x1024 .f32) (h14 : M14.IsWhole)
    (M15 : Memref sig .tc .vmem S1x1x1024 .f32) (h15 : M15.IsWhole)
    (M16 : Memref sig .tc .vmem S1x31x512 .f32) (h16 : M16.IsWhole)
    (M17 : Memref sig .tc .vmem S1x1x512 .f32) (h17 : M17.IsWhole)
    (M18 : Memref sig .tc .vmem S1x1x512 .f32) (h18 : M18.IsWhole)
    (M19 : Memref sig .tc .vmem S1x1x512 .f32) (h19 : M19.IsWhole)
    (M20 : Memref sig .tc .vmem S128x128 .bf16) (h20 : M20.IsWhole)
    (M21 : Memref sig .tc .vmem S128x128 .bf16) (h21 : M21.IsWhole)
    (M22 : Memref sig .tc .vmem S128x1024 .bf16) (h22 : M22.IsWhole)
    (M23 : Memref sig .tc .vmem S512x1024 .f32) (h23 : M23.IsWhole)
    (M24 : Memref sig .tc .vmem S520x1024 .f32) (h24 : M24.IsWhole)
    (M25 : Memref sig .tc .vmem S520x2048 .f32) (h25 : M25.IsWhole)
    (M26 : Memref sig .tc .vmem S544x512 .f32) (h26 : M26.IsWhole)
    (M27 : Memref sig .tc .vmem S4x128x256 .f32) (h27 : M27.IsWhole)
    (M28 : Memref sig .tc .vmem S4x8x128 .f32) (h28 : M28.IsWhole)
    (M29 : Memref sig .tc .vmem S128x1024 .f32) (h29 : M29.IsWhole)
    (M30 : Memref sig .tc .vmem S512x2048 .bf16) (h30 : M30.IsWhole)
    (M31 : Memref sig .tc .vmem S2x128x6400 .f32) (h31 : M31.IsWhole)
    (K : PUnit → sProp 𝕄) :
    iprop(any c M0 ∗ any c M1 ∗ any c M2 ∗ any c M3 ∗ any c M4 ∗ any c M5 ∗ any c M6 ∗ any c M7 ∗ any c M8 ∗ any c M9 ∗ any c M10 ∗ any c M11 ∗ any c M12 ∗ any c M13 ∗ any c M14 ∗ any c M15 ∗ any c M16 ∗ any c M17 ∗ any c M18 ∗ any c M19 ∗ any c M20 ∗ any c M21 ∗ any c M22 ∗ any c M23 ∗ any c M24 ∗ any c M25 ∗ any c M26 ∗ any c M27 ∗ any c M28 ∗ any c M29 ∗ any c M30 ∗ any c M31
        ∗ (iprop(any c M0 ∗ any c M1 ∗ any c M2 ∗ any c M3 ∗ any c M4 ∗ any c M5 ∗ any c M6 ∗ any c M7 ∗ any c M8 ∗ any c M9 ∗ any c M10 ∗ any c M11 ∗ any c M12 ∗ any c M13 ∗ any c M14 ∗ any c M15 ∗ any c M16 ∗ any c M17 ∗ any c M18 ∗ any c M19 ∗ any c M20 ∗ any c M21 ∗ any c M22 ∗ any c M23 ∗ any c M24 ∗ any c M25 ∗ any c M26 ∗ any c M27 ∗ any c M28 ∗ any c M29 ∗ any c M30 ∗ any c M31) -∗ K ⟨⟩))
      ⊢ wp frame (wpE (defs₀ (F := F)) Variants.none c none) Set.univ
          (cc0_mixer i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31) K := by
  by_cases hs : AtStart i <;> by_cases hr : AtRowStart i
  all_goals
  iintro ⟨H0, H1, H2, H3, H4, H5, H6, H7, H8, H9, H10, H11, H12, H13, H14, H15, H16, H17, H18, H19, H20, H21, H22, H23, H24, H25, H26, H27, H28, H29, H30, H31, Hk⟩
  ihave G0 := any_out c M0 h0 $$ H0; icases G0 with ⟨%f0, H0⟩
  ihave G1 := any_out c M1 h1 $$ H1; icases G1 with ⟨%f1, H1⟩
  ihave G2 := any_out c M2 h2 $$ H2; icases G2 with ⟨%f2, H2⟩
  ihave G3 := any_out c M3 h3 $$ H3; icases G3 with ⟨%f3, H3⟩
  ihave G4 := any_out c M4 h4 $$ H4; icases G4 with ⟨%f4, H4⟩
  ihave G5 := any_out c M5 h5 $$ H5; icases G5 with ⟨%f5, H5⟩
  ihave G6 := any_out c M6 h6 $$ H6; icases G6 with ⟨%f6, H6⟩
  ihave G7 := any_out c M7 h7 $$ H7; icases G7 with ⟨%f7, H7⟩
  ihave G8 := any_out c M8 h8 $$ H8; icases G8 with ⟨%f8, H8⟩
  ihave G9 := any_out c M9 h9 $$ H9; icases G9 with ⟨%f9, H9⟩
  ihave G10 := any_out c M10 h10 $$ H10; icases G10 with ⟨%f10, H10⟩
  ihave G11 := any_out c M11 h11 $$ H11; icases G11 with ⟨%f11, H11⟩
  ihave G12 := any_out c M12 h12 $$ H12; icases G12 with ⟨%f12, H12⟩
  ihave G13 := any_out c M13 h13 $$ H13; icases G13 with ⟨%f13, H13⟩
  ihave G14 := any_out c M14 h14 $$ H14; icases G14 with ⟨%f14, H14⟩
  ihave G15 := any_out c M15 h15 $$ H15; icases G15 with ⟨%f15, H15⟩
  ihave G16 := any_out c M16 h16 $$ H16; icases G16 with ⟨%f16, H16⟩
  ihave G17 := any_out c M17 h17 $$ H17; icases G17 with ⟨%f17, H17⟩
  ihave G18 := any_out c M18 h18 $$ H18; icases G18 with ⟨%f18, H18⟩
  ihave G19 := any_out c M19 h19 $$ H19; icases G19 with ⟨%f19, H19⟩
  ihave G20 := any_out c M20 h20 $$ H20; icases G20 with ⟨%f20, H20⟩
  ihave G21 := any_out c M21 h21 $$ H21; icases G21 with ⟨%f21, H21⟩
  ihave G22 := any_out c M22 h22 $$ H22; icases G22 with ⟨%f22, H22⟩
  ihave G23 := any_out c M23 h23 $$ H23; icases G23 with ⟨%f23, H23⟩
  ihave G24 := any_out c M24 h24 $$ H24; icases G24 with ⟨%f24, H24⟩
  ihave G25 := any_out c M25 h25 $$ H25; icases G25 with ⟨%f25, H25⟩
  ihave G26 := any_out c M26 h26 $$ H26; icases G26 with ⟨%f26, H26⟩
  ihave G27 := any_out c M27 h27 $$ H27; icases G27 with ⟨%f27, H27⟩
  ihave G28 := any_out c M28 h28 $$ H28; icases G28 with ⟨%f28, H28⟩
  ihave G29 := any_out c M29 h29 $$ H29; icases G29 with ⟨%f29, H29⟩
  ihave G30 := any_out c M30 h30 $$ H30; icases G30 with ⟨%f30, H30⟩
  ihave G31 := any_out c M31 h31 $$ H31; icases G31 with ⟨%f31, H31⟩
  sl_exec_parts (disch := first | exact hs | exact hr)
  sl_step
  iapply Hk
  isplitl [H0]; · iapply any_of c M0 h0; iexact H0
  isplitl [H1]; · iapply any_of c M1 h1; iexact H1
  isplitl [H2]; · iapply any_of c M2 h2; iexact H2
  isplitl [H3]; · iapply any_of c M3 h3; iexact H3
  isplitl [H4]; · iapply any_of c M4 h4; iexact H4
  isplitl [H5]; · iapply any_of c M5 h5; iexact H5
  isplitl [H6]; · iapply any_of c M6 h6; iexact H6
  isplitl [H7]; · iapply any_of c M7 h7; iexact H7
  isplitl [H8]; · iapply any_of c M8 h8; iexact H8
  isplitl [H9]; · iapply any_of c M9 h9; iexact H9
  isplitl [H10]; · iapply any_of c M10 h10; iexact H10
  isplitl [H11]; · iapply any_of c M11 h11; iexact H11
  isplitl [H12]; · iapply any_of c M12 h12; iexact H12
  isplitl [H13]; · iapply any_of c M13 h13; iexact H13
  isplitl [H14]; · iapply any_of c M14 h14; iexact H14
  isplitl [H15]; · iapply any_of c M15 h15; iexact H15
  isplitl [H16]; · iapply any_of c M16 h16; iexact H16
  isplitl [H17]; · iapply any_of c M17 h17; iexact H17
  isplitl [H18]; · iapply any_of c M18 h18; iexact H18
  isplitl [H19]; · iapply any_of c M19 h19; iexact H19
  isplitl [H20]; · iapply any_of c M20 h20; iexact H20
  isplitl [H21]; · iapply any_of c M21 h21; iexact H21
  isplitl [H22]; · iapply any_of c M22 h22; iexact H22
  isplitl [H23]; · iapply any_of c M23 h23; iexact H23
  isplitl [H24]; · iapply any_of c M24 h24; iexact H24
  isplitl [H25]; · iapply any_of c M25 h25; iexact H25
  isplitl [H26]; · iapply any_of c M26 h26; iexact H26
  isplitl [H27]; · iapply any_of c M27 h27; iexact H27
  isplitl [H28]; · iapply any_of c M28 h28; iexact H28
  isplitl [H29]; · iapply any_of c M29 h29; iexact H29
  isplitl [H30]; · iapply any_of c M30 h30; iexact H30
  iapply any_of c M31 h31; iexact H31

variable (m : (ℓ : Loc nD τ sig) → Buf (Elt F) ℓ) (ρ : Dev nD → PrngReg)

/-- What is carried between points, written out: the eight scratch buffers at some contents and the generator register. -/
theorem carried_eq (c : Dev nD) :
    (Pipeline.ΦA spec0 c : sProp 𝕄) = iprop(iprop(any c (Memref.whole cc0_scratch0) ∗ any c (Memref.whole cc0_scratch1) ∗ any c (Memref.whole cc0_scratch2) ∗ any c (Memref.whole cc0_scratch3) ∗ any c (Memref.whole cc0_scratch4) ∗ any c (Memref.whole cc0_scratch5) ∗ any c (Memref.whole cc0_scratch6) ∗ any c (Memref.whole cc0_scratch7)) ∗ ∃ r, prngReg c r) := by
  unfold Pipeline.ΦA
  rw [scopedRest0_eq]
  simp only [any, owns_whole]
  try rfl

/-- The proof data: the arrays as the call finds them, nothing said of what the body leaves, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- Every window is forgotten. -/
def forgets : Fin 24 → Bool := fun _ => true

/-- The windows' current buffers, each at some contents. -/
def held (c : Dev nD) (t : Fin cfg0.N) : sProp 𝕄 :=
  iprop(any c (win0_0.stage (cfg0.slots t 0)) ∗ any c (win0_1.stage (cfg0.slots t 1)) ∗ any c (win0_2.stage (cfg0.slots t 2)) ∗ any c (win0_3.stage (cfg0.slots t 3)) ∗ any c (win0_4.stage (cfg0.slots t 4)) ∗ any c (win0_5.stage (cfg0.slots t 5)) ∗ any c (win0_6.stage (cfg0.slots t 6)) ∗ any c (win0_7.stage (cfg0.slots t 7)) ∗ any c (win0_8.stage (cfg0.slots t 8)) ∗ any c (win0_9.stage (cfg0.slots t 9)) ∗ any c (win0_10.stage (cfg0.slots t 10)) ∗ any c (win0_11.stage (cfg0.slots t 11)) ∗ any c (win0_12.stage (cfg0.slots t 12)) ∗ any c (win0_13.stage (cfg0.slots t 13)) ∗ any c (win0_14.stage (cfg0.slots t 14)) ∗ any c (win0_15.stage (cfg0.slots t 15)) ∗ any c (win0_16.stage (cfg0.slots t 16)) ∗ any c (win0_17.stage (cfg0.slots t 17)) ∗ any c (win0_18.stage (cfg0.slots t 18)) ∗ any c (win0_19.stage (cfg0.slots t 19)) ∗ any c (win0_20.stage (cfg0.slots t 20)) ∗ any c (win0_21.stage (cfg0.slots t 21)) ∗ any c (win0_22.stage (cfg0.slots t 22)) ∗ any c (win0_23.stage (cfg0.slots t 23)))

theorem body_sound (c : Dev nD) (t : Fin cfg0.N) :
    iprop((dats m 0 c).Φ t.castSucc ∗ (dats m 0 c).owesAt () t.castSucc ∗ held c t)
      ⊢ wp frame (wpE (defs₀ (F := F)) Variants.none c none) Set.univ (bodyAt0 t)
          (fun _ => iprop((dats m 0 c).Φ t.succ ∗ (dats m 0 c).owesAt () t.succ ∗ held c t)) := by
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, carried_eq]
  unfold bodyAt0 held
  iintro ⟨⟨⟨S0, S1, S2, S3, S4, S5, S6, S7⟩, Hg⟩, HO, ⟨H0, H1, H2, H3, H4, H5, H6, H7, H8, H9, H10, H11, H12, H13, H14, H15, H16, H17, H18, H19, H20, H21, H22, H23⟩⟩
  iapply (run c (grid0.coords t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, H12, H13, H14, H15, H16, H17, H18, H19, H20, H21, H22, H23, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem body_row (t : Fin cfg0.N) : defs₀ (F := F) .tc cfg0.body (cfg0.bodyArgs t (cfg0.slots t)) = bodyAt0 t := by
  unfold defs₀; rw [Defs.onTc_tc]

/-- The body's obligation, the windows' conjunction folded. -/
theorem body_obligation (c : Dev nD) :
    BodyObligation (dats (F := F) m 0 c) (defs₀ (F := F)) Variants.none () Set.univ forgets := fun t => by
  rw [bigSep_W0, bigSep_W0, body_row]
  exact triple_restated (body_sound m c t) rfl .rfl fun _ => .rfl

set_option backward.isDefEq.respectTransparency.types false in
/-- The launch: every execution ends with every argument array as the call found it and every semaphore at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := fun _ _ => rfl) (hΦ := fun _ _ => rfl)

set_option maxHeartbeats 4000000 in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => ⟨(h.1.arr_in c 0 rfl).trans (V_main_arg0 m c),
      (h.1.arr_in c 2 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 5 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (h.1.arr_in c 9 rfl).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      (h.1.arr_in c 16 rfl).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c)⟩, h.2⟩) (run_main m ρ)

end Cert.MixerFrameIdeal

end
-- ==== Proof.Row.lean ====
/-
  The row mathematics of the feed-forward step, over the extended reals: the root mean square normalisation of a row
  and the gated feed-forward of a row, with its residual. Both the kernels and the references are read as these.
-/
module

public import Idealize.ShloMosaic.Lib.Pointwise

@[expose] public section

noncomputable section

namespace Cert.Row

open Idealize.ShloMosaic

/-- The width of a row, the smallness under the root, and one half, as the programs spell them. -/
abbrev width : EReal := Ideal.ofBits .f32 0x44800000#32
abbrev eps : EReal := Ideal.ofBits .f32 0x358637BD#32
abbrev half : EReal := Ideal.ofBits .f32 0x3F000000#32

/-- A row divided by its root mean square, times a gain. -/
def rms (v g : Fin 1024 → EReal) (j : Fin 1024) : EReal :=
  v j * Ideal.rsqrt (Ideal.div (∑ k, v k * v k) width + eps) * g j

/-- The gated hidden value `silu (h·A) * (h·B)` at hidden unit `f`. -/
def gated (h : Fin 1024 → EReal) (A B : Fin 1024 → Fin 2816 → EReal) (f : Fin 2816) : EReal :=
  (∑ k, h k * A k f) * Ideal.div 1 (1 + Ideal.exp (-(∑ k, h k * A k f))) * (∑ k, h k * B k f)

/-- The feed-forward step of a row: the row plus half of the down projection of the gated hidden values. -/
def ffn (x g : Fin 1024 → EReal) (A B : Fin 1024 → Fin 2816 → EReal) (D : Fin 2816 → Fin 1024 → EReal)
    (j : Fin 1024) : EReal :=
  x j + half * ∑ f, gated (rms x g) A B f * D f j

end Cert.Row

end
-- ==== Proof.Normed.lean ====
module

public import proofs.«01_k».proof.Proof.Row
public import proofs.«01_k».proof.Proof.Gen.KernelNormedIdeal.Value
public import proofs.«01_k».proof.Proof.Gen.ReferenceNormedIdeal.Run
public import Idealize.ShloMosaic.Lib.Pipeline.Value
public import Idealize.ShloMosaic.Lib.Quiescent
public import proofs.«01_k».proof.Defs

@[expose] public section

set_option maxRecDepth 16384

noncomputable section

namespace Cert.NormedValue

open Idealize.ShloMosaic Idealize.ShloMosaic.TcCoe Idealize.SL.Sem
open Cert.KernelNormedIdeal Cert.KernelNormedIdeal.Gen Cert.Row

theorem down_apply (x : FVec Ideal S512x1024 .f32) (g : FVec Ideal S1x1x1024 .f32) (A B : FVec Ideal S1x1024x2816 .bf16)
    (D : FVec Ideal S1x2816x1024 .bf16) (r : Fin 512) (j : Fin 1024) :
    k0_pay3 (F := Ideal) x g A B D (ix2 r j) = ∑ f, gated (rms (fun k => x (ix2 r k)) (fun k => g (ix3 0 0 k)))
      (fun k f => A (ix3 0 k f)) (fun k f => B (ix3 0 k f)) f * D (ix3 0 f j) := by
  pointwise [k0_pay3]
  simp only [zero_sub]
  rfl

theorem out_apply (x : FVec Ideal S512x1024 .f32) (g : FVec Ideal S1x1x1024 .f32) (A B : FVec Ideal S1x1024x2816 .bf16)
    (D : FVec Ideal S1x2816x1024 .bf16) (r : Fin 512) (j : Fin 1024) :
    k0_pay1 (F := Ideal) x (k0_pay3 x g A B D) (Scalar.ofBits .f32 0x3F000000#32) (ix2 r j) = ffn (fun k => x (ix2 r k)) (fun k => g (ix3 0 0 k))
      (fun k f => A (ix3 0 k f)) (fun k f => B (ix3 0 k f)) (fun f j => D (ix3 0 f j)) j := by
  pointwise [k0_pay1]
  rw [down_apply]
  rfl

theorem normed_apply (v w : FVec Ideal S512x1024 .f32) (q : Ideal .f32) (g : FVec Ideal S1x1x1024 .f32) (r : Fin 512) (j : Fin 1024) :
    k0_pay2 v w q g (ix2 r j) = rms (fun k => k0_pay1 v w q (ix2 r k)) (fun k => g (ix3 0 0 k)) j := by
  pointwise [k0_pay2]
  rfl

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-! ## What the windows read -/

theorem V_gain : V m c main_v1 = shapeCast S2x1x1024 (m ((c : Thread nD τ).loc main_arg1)) shapeCasts_S2x1024_S2x1x1024 := by
  unfold V; after_results_simp; rfl
theorem V_post : V m c main_v0 = shapeCast S2x1x1024 (m ((c : Thread nD τ).loc main_arg5)) shapeCasts_S2x1024_S2x1x1024 := by
  unfold V; after_results_simp; rfl
theorem V_A : V m c main_v2 = m ((c : Thread nD τ).loc main_arg2) := by
  unfold V; after_results_simp; rfl
theorem V_B : V m c main_v3 = m ((c : Thread nD τ).loc main_arg3) := by
  unfold V; after_results_simp; rfl
theorem V_D : V m c main_v4 = m ((c : Thread nD τ).loc main_arg4) := by
  unfold V; after_results_simp; rfl

theorem idx0 : ∀ t : Fin cfg0.N, win0_0.index t 0 = t.val ∧ win0_0.index t 1 = 0 := by decide +kernel

theorem iblk0 (t : Fin cfg0.N) (r : Fin 512) (k : Fin 1024) (h : 512 * t.val + r.val < 32768) :
    iblk m c 0 t (ix2 r k) = m ((c : Thread nD τ).loc main_arg0) (ix2 ⟨512 * t.val + r.val, h⟩ k) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (t : Fin cfg0.N) (k : Fin 1024) :
    iblk m c 1 t (ix3 0 0 k) = m ((c : Thread nD τ).loc main_arg1) (ix2 0 k) := by
  unfold iblk
  rw [View.read_apply]
  have e : ((cfg0.win 1).blk t).view.emb (ix3 0 0 k) = ix3 0 0 k := by
    funext a
    apply Fin.ext
    match a with
    | ⟨0, _⟩ => rfl
    | ⟨1, _⟩ => rfl
    | ⟨2, _⟩ => show 0 * 1024 + 1 * k.val = k.val; omega
  refine (congrArg (V m c main_v1) e).trans ?_
  rw [V_gain]
  pointwise

theorem iblk2 (t : Fin cfg0.N) (k : Fin 1024) (f : Fin 2816) :
    iblk m c 2 t (ix3 0 k f) = m ((c : Thread nD τ).loc main_arg2) (ix3 0 k f) := by
  unfold iblk
  rw [View.read_apply]
  have e : ((cfg0.win 2).blk t).view.emb (ix3 0 k f) = ix3 0 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V m c main_v2) e).trans ?_
  rw [V_A]

theorem iblk3 (t : Fin cfg0.N) (k : Fin 1024) (f : Fin 2816) :
    iblk m c 3 t (ix3 0 k f) = m ((c : Thread nD τ).loc main_arg3) (ix3 0 k f) := by
  unfold iblk
  rw [View.read_apply]
  have e : ((cfg0.win 3).blk t).view.emb (ix3 0 k f) = ix3 0 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V m c main_v3) e).trans ?_
  rw [V_B]

theorem iblk4 (t : Fin cfg0.N) (f : Fin 2816) (k : Fin 1024) :
    iblk m c 4 t (ix3 0 f k) = m ((c : Thread nD τ).loc main_arg4) (ix3 0 f k) := by
  unfold iblk
  rw [View.read_apply]
  have e : ((cfg0.win 4).blk t).view.emb (ix3 0 f k) = ix3 0 f k := by
    funext a
    apply Fin.ext
    match a with
    | ⟨0, _⟩ => rfl
    | ⟨1, _⟩ => show 0 * 2816 + 1 * f.val = f.val; omega
    | ⟨2, _⟩ => show 0 * 1024 + 1 * k.val = k.val; omega
  refine (congrArg (V m c main_v4) e).trans ?_
  rw [V_D]

theorem iblk5 (t : Fin cfg0.N) (k : Fin 1024) :
    iblk m c 5 t (ix3 0 0 k) = m ((c : Thread nD τ).loc main_arg5) (ix2 0 k) := by
  unfold iblk
  rw [View.read_apply]
  have e : ((cfg0.win 5).blk t).view.emb (ix3 0 0 k) = ix3 0 0 k := by
    funext a
    apply Fin.ext
    match a with
    | ⟨0, _⟩ => rfl
    | ⟨1, _⟩ => rfl
    | ⟨2, _⟩ => show 0 * 1024 + 1 * k.val = k.val; omega
  refine (congrArg (V m c main_v0) e).trans ?_
  rw [V_post]
  pointwise

/-! ## What the kernel leaves -/

/-- The first result, as a function of the arguments: the feed-forward step of each row. -/
def out (R : Fin 32768) (j : Fin 1024) : EReal :=
  ffn (fun k => m ((c : Thread nD τ).loc main_arg0) (ix2 R k)) (fun k => m ((c : Thread nD τ).loc main_arg1) (ix2 0 k))
    (fun k f => m ((c : Thread nD τ).loc main_arg2) (ix3 0 k f)) (fun k f => m ((c : Thread nD τ).loc main_arg3) (ix3 0 k f))
    (fun f k => m ((c : Thread nD τ).loc main_arg4) (ix3 0 f k)) j

theorem pay4_block (t : Fin cfg0.N) (r : Fin 512) (j : Fin 1024) (h : 512 * t.val + r.val < 32768) :
    k0_pay1 (iblk m c 0 t) (k0_pay4 (iblk m c 0 t) (iblk m c 1 t) (iblk m c 2 t) (iblk m c 3 t) (iblk m c 4 t) (iblk m c 5 t))
      (Scalar.ofBits .f32 0x3F000000#32) (ix2 r j) = out m c ⟨512 * t.val + r.val, h⟩ j := by
  unfold k0_pay4
  simp only [View.ld_unit_zero (S := S512x1024) hz2, View.ld_unit_zero (S := S1x1x1024) hz3,
    View.ld_unit_zero (S := S1x1024x2816) hz3, View.ld_unit_zero (S := S1x2816x1024) hz3]
  refine (out_apply _ _ _ _ _ r j).trans ?_
  unfold out
  simp only [iblk0 m c t r _ h, iblk1, iblk2, iblk3, iblk4]

theorem row_split (R : Fin 32768) : ∃ (t : Fin cfg0.N) (r : Fin 512), 512 * t.val + r.val = R.val :=
  ⟨⟨R.val / 512, by rw [show cfg0.N = 64 from N_0]; omega⟩, ⟨R.val % 512, by omega⟩, by dsimp only; omega⟩

theorem idx6 : ∀ t : Fin cfg0.N, win0_6.index t 0 = t.val ∧ win0_6.index t 1 = 0 := by decide +kernel

theorem emb6 (t : Fin cfg0.N) (r : Fin 512) (j : Fin 1024) (h : 512 * t.val + r.val < 32768) :
    ((cfg0.win 6).blk t).view.emb (ix2 r j) = ix2 ⟨512 * t.val + r.val, h⟩ j := by
  funext a
  apply Fin.ext
  match a with
  | ⟨0, _⟩ => show win0_6.index t 0 * 512 + 1 * r.val = 512 * t.val + r.val; rw [(idx6 t).1]; omega
  | ⟨1, _⟩ => show win0_6.index t 1 * 1024 + 1 * j.val = j.val; rw [(idx6 t).2]; omega

theorem final6 (R : Fin 32768) (j : Fin 1024) : (dats m 0 c).arrAt 6 cfg0.N (ix2 R j) = out m c R j := by
  obtain ⟨t, r, h⟩ := row_split R
  have hR : R = ⟨512 * t.val + r.val, by omega⟩ := Fin.ext h.symm
  have b := congrFun (Value.blocks6 m c t (flush0_6 t)) (ix2 r j)
  rw [View.read_apply, emb6 t r j (by omega), ← hR] at b
  refine b.trans ?_
  rw [Value.flushed6]
  show out0_6 _ _ _ _ _ _ (ix2 r j) = _
  unfold out0_6
  rw [View.canon_unit_zero hz2]
  simp only [View.ld_unit_zero (S := S512x1024) hz2]
  rw [pay4_block m c t r j (by omega), ← hR]

/-- The second result: the normalised first one. -/
def outNormed (R : Fin 32768) (j : Fin 1024) : EReal :=
  rms (fun k => out m c R k) (fun k => m ((c : Thread nD τ).loc main_arg5) (ix2 0 k)) j

theorem idx7 : ∀ t : Fin cfg0.N, win0_7.index t 0 = t.val ∧ win0_7.index t 1 = 0 := by decide +kernel

theorem emb7 (t : Fin cfg0.N) (r : Fin 512) (j : Fin 1024) (h : 512 * t.val + r.val < 32768) :
    ((cfg0.win 7).blk t).view.emb (ix2 r j) = ix2 ⟨512 * t.val + r.val, h⟩ j := by
  funext a
  apply Fin.ext
  match a with
  | ⟨0, _⟩ => show win0_7.index t 0 * 512 + 1 * r.val = 512 * t.val + r.val; rw [(idx7 t).1]; omega
  | ⟨1, _⟩ => show win0_7.index t 1 * 1024 + 1 * j.val = j.val; rw [(idx7 t).2]; omega

theorem final7 (R : Fin 32768) (j : Fin 1024) : (dats m 0 c).arrAt 7 cfg0.N (ix2 R j) = outNormed m c R j := by
  obtain ⟨t, r, h⟩ := row_split R
  have hR : R = ⟨512 * t.val + r.val, by omega⟩ := Fin.ext h.symm
  have b := congrFun (Value.blocks7 m c t (flush0_7 t)) (ix2 r j)
  rw [View.read_apply, emb7 t r j (by omega), ← hR] at b
  refine b.trans ?_
  rw [Value.flushed7]
  show out0_7 _ _ _ _ _ _ (ix2 r j) = _
  unfold out0_7
  rw [View.canon_unit_zero hz2]
  simp only [View.ld_unit_zero (S := S512x1024) hz2, View.ld_unit_zero (S := S1x1x1024) hz3]
  refine (normed_apply _ _ _ _ r j).trans ?_
  unfold outNormed
  simp only [pay4_block m c t r _ (by omega), ← hR, iblk5]

/-! ## The reference, and the claim -/

theorem frame_ref [Cert.ReferenceNormedIdeal.Facts] : Cert.quiescent_ReferenceNormedIdeal := fun m ρ _ =>
  (θ_run Cert.ReferenceNormedIdeal.defs _ _).mono
    (fun r h => ⟨fun c => (h c).2.2, Idealize.ShloMosaic.sem_eq_zero_of_no_sems (by decide) r.2⟩)
    (Cert.ReferenceNormedIdeal.Value.run (F := Ideal) m ρ)

theorem algebraic : Cert.algebraic_KernelNormedIdeal_ReferenceNormedIdeal := by
  intro m ρ m' ρ' _ hagree
  refine ⟨fun c => (dats m 0 c).arrAt 6 cfg0.N, fun c => (dats m 0 c).arrAt 7 cfg0.N, Value.run_blocks m ρ, ?_⟩
  refine (θ_run Cert.ReferenceNormedIdeal.defs _ _).mono (fun _ h c => ⟨(h c).1.trans ?_, (h c).2.1.trans ?_, (h c).2.2⟩)
    (Cert.ReferenceNormedIdeal.Value.run (F := Ideal) m' ρ')
  · obtain ⟨h0, h1, h2, h3, h4, h5⟩ := hagree c
    funext i
    obtain ⟨R, j, rfl⟩ : ∃ (R : Fin 32768) (j : Fin 1024), i = ix2 R j := ⟨i 0, i 1, by funext a; fin_cases a <;> rfl⟩
    refine Eq.trans ?_ (final6 m c R j).symm
    rw [h0, h1, h2, h3, h4]
    pointwise
    rfl
  · obtain ⟨h0, h1, h2, h3, h4, h5⟩ := hagree c
    funext i
    obtain ⟨R, j, rfl⟩ : ∃ (R : Fin 32768) (j : Fin 1024), i = ix2 R j := ⟨i 0, i 1, by funext a; fin_cases a <;> rfl⟩
    refine Eq.trans ?_ (final7 m c R j).symm
    unfold Cert.ReferenceNormedIdeal.Value.res_main_v44
    rw [h0, h1, h2, h3, h4, h5]
    pointwise
    rfl

end Cert.NormedValue
end
-- ==== Proof.Plain.lean ====
module

public import proofs.«01_k».proof.Proof.Row
public import proofs.«01_k».proof.Proof.Gen.KernelPlainIdeal.Value
public import proofs.«01_k».proof.Proof.Gen.ReferencePlainIdeal.Run
public import Idealize.ShloMosaic.Lib.Pipeline.Value
public import Idealize.ShloMosaic.Lib.Quiescent
public import proofs.«01_k».proof.Defs

@[expose] public section

set_option maxRecDepth 16384

noncomputable section

namespace Cert.PlainValue

open Idealize.ShloMosaic Idealize.ShloMosaic.TcCoe Idealize.SL.Sem
open Cert.KernelPlainIdeal Cert.KernelPlainIdeal.Gen Cert.Row

theorem down_apply (x : FVec Ideal S512x1024 .f32) (g : FVec Ideal S1x1x1024 .f32) (A B : FVec Ideal S1x1024x2816 .bf16)
    (D : FVec Ideal S1x2816x1024 .bf16) (r : Fin 512) (j : Fin 1024) :
    k0_pay2 (F := Ideal) x g A B D (ix2 r j) = ∑ f, gated (rms (fun k => x (ix2 r k)) (fun k => g (ix3 0 0 k)))
      (fun k f => A (ix3 0 k f)) (fun k f => B (ix3 0 k f)) f * D (ix3 0 f j) := by
  pointwise [k0_pay2]
  simp only [zero_sub]
  rfl

theorem out_apply (x : FVec Ideal S512x1024 .f32) (g : FVec Ideal S1x1x1024 .f32) (A B : FVec Ideal S1x1024x2816 .bf16)
    (D : FVec Ideal S1x2816x1024 .bf16) (r : Fin 512) (j : Fin 1024) :
    k0_pay1 (F := Ideal) x (k0_pay2 x g A B D) (Scalar.ofBits .f32 0x3F000000#32) (ix2 r j) = ffn (fun k => x (ix2 r k)) (fun k => g (ix3 0 0 k))
      (fun k f => A (ix3 0 k f)) (fun k f => B (ix3 0 k f)) (fun f j => D (ix3 0 f j)) j := by
  pointwise [k0_pay1]
  rw [down_apply]
  rfl

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-! ## What the windows read -/

theorem V_gain : V m c main_v1 = shapeCast S2x1x1024 (m ((c : Thread nD τ).loc main_arg1)) shapeCasts_S2x1024_S2x1x1024 := by
  unfold V; after_results_simp; rfl
theorem V_A : V m c main_v2 = m ((c : Thread nD τ).loc main_arg2) := by
  unfold V; after_results_simp; rfl
theorem V_B : V m c main_v3 = m ((c : Thread nD τ).loc main_arg3) := by
  unfold V; after_results_simp; rfl
theorem V_D : V m c main_v4 = m ((c : Thread nD τ).loc main_arg4) := by
  unfold V; after_results_simp; rfl

theorem idx0 : ∀ t : Fin cfg0.N, win0_0.index t 0 = t.val ∧ win0_0.index t 1 = 0 := by decide +kernel

theorem iblk0 (t : Fin cfg0.N) (r : Fin 512) (k : Fin 1024) (h : 512 * t.val + r.val < 32768) :
    iblk m c 0 t (ix2 r k) = m ((c : Thread nD τ).loc main_arg0) (ix2 ⟨512 * t.val + r.val, h⟩ k) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (t : Fin cfg0.N) (k : Fin 1024) :
    iblk m c 1 t (ix3 0 0 k) = m ((c : Thread nD τ).loc main_arg1) (ix2 0 k) := by
  unfold iblk
  rw [View.read_apply]
  have e : ((cfg0.win 1).blk t).view.emb (ix3 0 0 k) = ix3 0 0 k := by
    funext a
    apply Fin.ext
    match a with
    | ⟨0, _⟩ => rfl
    | ⟨1, _⟩ => rfl
    | ⟨2, _⟩ => show 0 * 1024 + 1 * k.val = k.val; omega
  refine (congrArg (V m c main_v1) e).trans ?_
  rw [V_gain]
  pointwise

theorem iblk2 (t : Fin cfg0.N) (k : Fin 1024) (f : Fin 2816) :
    iblk m c 2 t (ix3 0 k f) = m ((c : Thread nD τ).loc main_arg2) (ix3 0 k f) := by
  unfold iblk
  rw [View.read_apply]
  have e : ((cfg0.win 2).blk t).view.emb (ix3 0 k f) = ix3 0 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V m c main_v2) e).trans ?_
  rw [V_A]

theorem iblk3 (t : Fin cfg0.N) (k : Fin 1024) (f : Fin 2816) :
    iblk m c 3 t (ix3 0 k f) = m ((c : Thread nD τ).loc main_arg3) (ix3 0 k f) := by
  unfold iblk
  rw [View.read_apply]
  have e : ((cfg0.win 3).blk t).view.emb (ix3 0 k f) = ix3 0 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V m c main_v3) e).trans ?_
  rw [V_B]

theorem iblk4 (t : Fin cfg0.N) (f : Fin 2816) (k : Fin 1024) :
    iblk m c 4 t (ix3 0 f k) = m ((c : Thread nD τ).loc main_arg4) (ix3 0 f k) := by
  unfold iblk
  rw [View.read_apply]
  have e : ((cfg0.win 4).blk t).view.emb (ix3 0 f k) = ix3 0 f k := by
    funext a
    apply Fin.ext
    match a with
    | ⟨0, _⟩ => rfl
    | ⟨1, _⟩ => show 0 * 2816 + 1 * f.val = f.val; omega
    | ⟨2, _⟩ => show 0 * 1024 + 1 * k.val = k.val; omega
  refine (congrArg (V m c main_v4) e).trans ?_
  rw [V_D]

/-! ## What the kernel leaves -/

/-- The result, as a function of the arguments: the feed-forward step of each row. -/
def out (R : Fin 32768) (j : Fin 1024) : EReal :=
  ffn (fun k => m ((c : Thread nD τ).loc main_arg0) (ix2 R k)) (fun k => m ((c : Thread nD τ).loc main_arg1) (ix2 0 k))
    (fun k f => m ((c : Thread nD τ).loc main_arg2) (ix3 0 k f)) (fun k f => m ((c : Thread nD τ).loc main_arg3) (ix3 0 k f))
    (fun f k => m ((c : Thread nD τ).loc main_arg4) (ix3 0 f k)) j

theorem out_block (t : Fin cfg0.N) (r : Fin 512) (j : Fin 1024) (h : 512 * t.val + r.val < 32768) :
    out0_6 (iblk m c 0 t) (iblk m c 1 t) (iblk m c 2 t) (iblk m c 3 t) (iblk m c 4 t) (iblk m c 5 t) (ix2 r j)
      = out m c ⟨512 * t.val + r.val, h⟩ j := by
  unfold out0_6
  rw [View.canon_unit_zero hz2]
  simp only [View.ld_unit_zero (S := S512x1024) hz2, View.ld_unit_zero (S := S1x1x1024) hz3,
    View.ld_unit_zero (S := S1x1024x2816) hz3, View.ld_unit_zero (S := S1x2816x1024) hz3]
  refine (out_apply _ _ _ _ _ r j).trans ?_
  unfold out
  simp only [iblk0 m c t r _ h, iblk1, iblk2, iblk3, iblk4]

theorem row_split (R : Fin 32768) : ∃ (t : Fin cfg0.N) (r : Fin 512), 512 * t.val + r.val = R.val :=
  ⟨⟨R.val / 512, by rw [show cfg0.N = 64 from N_0]; omega⟩, ⟨R.val % 512, by omega⟩, by dsimp only; omega⟩

theorem idx6 : ∀ t : Fin cfg0.N, win0_6.index t 0 = t.val ∧ win0_6.index t 1 = 0 := by decide +kernel

theorem emb6 (t : Fin cfg0.N) (r : Fin 512) (j : Fin 1024) (h : 512 * t.val + r.val < 32768) :
    ((cfg0.win 6).blk t).view.emb (ix2 r j) = ix2 ⟨512 * t.val + r.val, h⟩ j := by
  funext a
  apply Fin.ext
  match a with
  | ⟨0, _⟩ => show win0_6.index t 0 * 512 + 1 * r.val = 512 * t.val + r.val; rw [(idx6 t).1]; omega
  | ⟨1, _⟩ => show win0_6.index t 1 * 1024 + 1 * j.val = j.val; rw [(idx6 t).2]; omega

theorem final6 (R : Fin 32768) (j : Fin 1024) : (dats m 0 c).arrAt 6 cfg0.N (ix2 R j) = out m c R j := by
  obtain ⟨t, r, h⟩ := row_split R
  have hR : R = ⟨512 * t.val + r.val, by omega⟩ := Fin.ext h.symm
  have b := congrFun (Value.blocks6 m c t (flush0_6 t)) (ix2 r j)
  rw [View.read_apply, emb6 t r j (by omega), ← hR] at b
  refine b.trans ?_
  rw [Value.flushed6]
  refine (out_block m c t r j (by omega)).trans ?_
  rw [← hR]

/-! ## The reference, and the claim -/

theorem frame_ref [Cert.ReferencePlainIdeal.Facts] : Cert.quiescent_ReferencePlainIdeal := fun m ρ _ =>
  (θ_run Cert.ReferencePlainIdeal.defs _ _).mono
    (fun r h => ⟨fun c => (h c).2, Idealize.ShloMosaic.sem_eq_zero_of_no_sems (by decide) r.2⟩)
    (Cert.ReferencePlainIdeal.Value.run (F := Ideal) m ρ)

theorem algebraic : Cert.algebraic_KernelPlainIdeal_ReferencePlainIdeal := by
  intro m ρ m' ρ' _ hagree
  refine ⟨fun c => (dats m 0 c).arrAt 6 cfg0.N, Value.run_blocks m ρ, ?_⟩
  refine (θ_run Cert.ReferencePlainIdeal.defs _ _).mono (fun _ h c => ⟨(h c).1.trans ?_, (h c).2⟩)
    (Cert.ReferencePlainIdeal.Value.run (F := Ideal) m' ρ')
  · obtain ⟨h0, h1, h2, h3, h4, h5⟩ := hagree c
    funext i
    obtain ⟨R, j, rfl⟩ : ∃ (R : Fin 32768) (j : Fin 1024), i = ix2 R j := ⟨i 0, i 1, by funext a; fin_cases a <;> rfl⟩
    refine Eq.trans ?_ (final6 m c R j).symm
    rw [h0, h1, h2, h3, h4]
    pointwise
    rfl

end Cert.PlainValue
end
-- ==== Proof.Final.lean ====
module

public import proofs.«01_k».proof.Proof.Row
public import proofs.«01_k».proof.Proof.Gen.KernelFinalIdeal.Value
public import proofs.«01_k».proof.Proof.Gen.ReferenceFinalIdeal.Run
public import Idealize.ShloMosaic.Lib.Pipeline.Value
public import Idealize.ShloMosaic.Lib.Quiescent
public import proofs.«01_k».proof.Defs

@[expose] public section

set_option maxRecDepth 16384

noncomputable section

namespace Cert.FinalValue

open Idealize.ShloMosaic Idealize.ShloMosaic.TcCoe Idealize.SL.Sem
open Cert.KernelFinalIdeal Cert.KernelFinalIdeal.Gen Cert.Row

theorem down_apply (x : FVec Ideal S512x1024 .f32) (g : FVec Ideal S1x1x1024 .f32) (A B : FVec Ideal S1x1024x2816 .bf16)
    (D : FVec Ideal S1x2816x1024 .bf16) (r : Fin 512) (j : Fin 1024) :
    k0_pay2 (F := Ideal) x g A B D (ix2 r j) = ∑ f, gated (rms (fun k => x (ix2 r k)) (fun k => g (ix3 0 0 k)))
      (fun k f => A (ix3 0 k f)) (fun k f => B (ix3 0 k f)) f * D (ix3 0 f j) := by
  pointwise [k0_pay2]
  simp only [zero_sub]
  rfl

theorem out_apply (x : FVec Ideal S512x1024 .f32) (g : FVec Ideal S1x1x1024 .f32) (A B : FVec Ideal S1x1024x2816 .bf16)
    (D : FVec Ideal S1x2816x1024 .bf16) (w : FVec Ideal S1x1024 .f32) (r : Fin 512) (j : Fin 1024) :
    k0_pay1 (F := Ideal) x (k0_pay2 x g A B D) (Scalar.ofBits .f32 0x3F000000#32) w (ix2 r j) =
      rms (ffn (fun k => x (ix2 r k)) (fun k => g (ix3 0 0 k))
        (fun k f => A (ix3 0 k f)) (fun k f => B (ix3 0 k f)) (fun f j => D (ix3 0 f j))) (fun k => w (ix2 0 k)) j := by
  pointwise [k0_pay1]
  simp only [down_apply]
  rfl

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-! ## What the windows read -/

theorem V_gain : V m c main_v1 = shapeCast S2x1x1024 (m ((c : Thread nD τ).loc main_arg1)) shapeCasts_S2x1024_S2x1x1024 := by
  unfold V; after_results_simp; rfl
theorem V_post : V m c main_v0 = shapeCast S1x1024 (m ((c : Thread nD τ).loc main_arg5)) shapeCasts_S1024_S1x1024 := by
  unfold V; after_results_simp; rfl
theorem V_A : V m c main_v2 = m ((c : Thread nD τ).loc main_arg2) := by
  unfold V; after_results_simp; rfl
theorem V_B : V m c main_v3 = m ((c : Thread nD τ).loc main_arg3) := by
  unfold V; after_results_simp; rfl
theorem V_D : V m c main_v4 = m ((c : Thread nD τ).loc main_arg4) := by
  unfold V; after_results_simp; rfl

theorem idx0 : ∀ t : Fin cfg0.N, win0_0.index t 0 = t.val ∧ win0_0.index t 1 = 0 := by decide +kernel

theorem iblk0 (t : Fin cfg0.N) (r : Fin 512) (k : Fin 1024) (h : 512 * t.val + r.val < 32768) :
    iblk m c 0 t (ix2 r k) = m ((c : Thread nD τ).loc main_arg0) (ix2 ⟨512 * t.val + r.val, h⟩ k) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (t : Fin cfg0.N) (k : Fin 1024) :
    iblk m c 1 t (ix3 0 0 k) = m ((c : Thread nD τ).loc main_arg1) (ix2 1 k) := by
  unfold iblk
  rw [View.read_apply]
  have e : ((cfg0.win 1).blk t).view.emb (ix3 0 0 k) = ix3 1 0 k := by
    funext a
    apply Fin.ext
    match a with
    | ⟨0, _⟩ => rfl
    | ⟨1, _⟩ => rfl
    | ⟨2, _⟩ => show 0 * 1024 + 1 * k.val = k.val; omega
  refine (congrArg (V m c main_v1) e).trans ?_
  rw [V_gain]
  pointwise

theorem iblk2 (t : Fin cfg0.N) (k : Fin 1024) (f : Fin 2816) :
    iblk m c 2 t (ix3 0 k f) = m ((c : Thread nD τ).loc main_arg2) (ix3 1 k f) := by
  unfold iblk
  rw [View.read_apply]
  have e : ((cfg0.win 2).blk t).view.emb (ix3 0 k f) = ix3 1 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V m c main_v2) e).trans ?_
  rw [V_A]

theorem iblk3 (t : Fin cfg0.N) (k : Fin 1024) (f : Fin 2816) :
    iblk m c 3 t (ix3 0 k f) = m ((c : Thread nD τ).loc main_arg3) (ix3 1 k f) := by
  unfold iblk
  rw [View.read_apply]
  have e : ((cfg0.win 3).blk t).view.emb (ix3 0 k f) = ix3 1 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V m c main_v3) e).trans ?_
  rw [V_B]

theorem iblk4 (t : Fin cfg0.N) (f : Fin 2816) (k : Fin 1024) :
    iblk m c 4 t (ix3 0 f k) = m ((c : Thread nD τ).loc main_arg4) (ix3 1 f k) := by
  unfold iblk
  rw [View.read_apply]
  have e : ((cfg0.win 4).blk t).view.emb (ix3 0 f k) = ix3 1 f k := by
    funext a
    apply Fin.ext
    match a with
    | ⟨0, _⟩ => rfl
    | ⟨1, _⟩ => show 0 * 2816 + 1 * f.val = f.val; omega
    | ⟨2, _⟩ => show 0 * 1024 + 1 * k.val = k.val; omega
  refine (congrArg (V m c main_v4) e).trans ?_
  rw [V_D]

theorem iblk5 (t : Fin cfg0.N) (k : Fin 1024) :
    iblk m c 5 t (ix2 0 k) = m ((c : Thread nD τ).loc main_arg5) (ix1 k) := by
  unfold iblk
  rw [View.read_apply]
  have e : ((cfg0.win 5).blk t).view.emb (ix2 0 k) = ix2 0 k := by
    funext a
    apply Fin.ext
    match a with
    | ⟨0, _⟩ => rfl
    | ⟨1, _⟩ => show 0 * 1024 + 1 * k.val = k.val; omega
  refine (congrArg (V m c main_v0) e).trans ?_
  rw [V_post]
  pointwise

/-! ## What the kernel leaves -/

/-- The result, as a function of the arguments: the feed-forward step of each row, normalised. -/
def out (R : Fin 32768) (j : Fin 1024) : EReal :=
  rms (ffn (fun k => m ((c : Thread nD τ).loc main_arg0) (ix2 R k)) (fun k => m ((c : Thread nD τ).loc main_arg1) (ix2 1 k))
    (fun k f => m ((c : Thread nD τ).loc main_arg2) (ix3 1 k f)) (fun k f => m ((c : Thread nD τ).loc main_arg3) (ix3 1 k f))
    (fun f k => m ((c : Thread nD τ).loc main_arg4) (ix3 1 f k)))
    (fun k => m ((c : Thread nD τ).loc main_arg5) (ix1 k)) j

theorem out_block (t : Fin cfg0.N) (r : Fin 512) (j : Fin 1024) (h : 512 * t.val + r.val < 32768) :
    out0_6 (iblk m c 0 t) (iblk m c 1 t) (iblk m c 2 t) (iblk m c 3 t) (iblk m c 4 t) (iblk m c 5 t) (ix2 r j)
      = out m c ⟨512 * t.val + r.val, h⟩ j := by
  unfold out0_6
  rw [View.canon_unit_zero hz2]
  simp only [View.ld_unit_zero (S := S512x1024) hz2, View.ld_unit_zero (S := S1x1x1024) hz3,
    View.ld_unit_zero (S := S1x1024x2816) hz3, View.ld_unit_zero (S := S1x2816x1024) hz3, View.ld_unit_zero (S := S1x1024) hz2]
  refine (out_apply _ _ _ _ _ _ r j).trans ?_
  unfold out
  simp only [iblk0 m c t r _ h, iblk1, iblk2, iblk3, iblk4, iblk5]

theorem row_split (R : Fin 32768) : ∃ (t : Fin cfg0.N) (r : Fin 512), 512 * t.val + r.val = R.val :=
  ⟨⟨R.val / 512, by rw [show cfg0.N = 64 from N_0]; omega⟩, ⟨R.val % 512, by omega⟩, by dsimp only; omega⟩

theorem idx6 : ∀ t : Fin cfg0.N, win0_6.index t 0 = t.val ∧ win0_6.index t 1 = 0 := by decide +kernel

theorem emb6 (t : Fin cfg0.N) (r : Fin 512) (j : Fin 1024) (h : 512 * t.val + r.val < 32768) :
    ((cfg0.win 6).blk t).view.emb (ix2 r j) = ix2 ⟨512 * t.val + r.val, h⟩ j := by
  funext a
  apply Fin.ext
  match a with
  | ⟨0, _⟩ => show win0_6.index t 0 * 512 + 1 * r.val = 512 * t.val + r.val; rw [(idx6 t).1]; omega
  | ⟨1, _⟩ => show win0_6.index t 1 * 1024 + 1 * j.val = j.val; rw [(idx6 t).2]; omega

theorem final6 (R : Fin 32768) (j : Fin 1024) : (dats m 0 c).arrAt 6 cfg0.N (ix2 R j) = out m c R j := by
  obtain ⟨t, r, h⟩ := row_split R
  have hR : R = ⟨512 * t.val + r.val, by omega⟩ := Fin.ext h.symm
  have b := congrFun (Value.blocks6 m c t (flush0_6 t)) (ix2 r j)
  rw [View.read_apply, emb6 t r j (by omega), ← hR] at b
  refine b.trans ?_
  rw [Value.flushed6]
  refine (out_block m c t r j (by omega)).trans ?_
  rw [← hR]

/-! ## The reference, and the claim -/

theorem frame_ref [Cert.ReferenceFinalIdeal.Facts] : Cert.quiescent_ReferenceFinalIdeal := fun m ρ _ =>
  (θ_run Cert.ReferenceFinalIdeal.defs _ _).mono
    (fun r h => ⟨fun c => (h c).2, Idealize.ShloMosaic.sem_eq_zero_of_no_sems (by decide) r.2⟩)
    (Cert.ReferenceFinalIdeal.Value.run (F := Ideal) m ρ)

theorem algebraic : Cert.algebraic_KernelFinalIdeal_ReferenceFinalIdeal := by
  intro m ρ m' ρ' _ hagree
  refine ⟨fun c => (dats m 0 c).arrAt 6 cfg0.N, Value.run_blocks m ρ, ?_⟩
  refine (θ_run Cert.ReferenceFinalIdeal.defs _ _).mono (fun _ h c => ⟨(h c).1.trans ?_, (h c).2⟩)
    (Cert.ReferenceFinalIdeal.Value.run (F := Ideal) m' ρ')
  · obtain ⟨h0, h1, h2, h3, h4, h5⟩ := hagree c
    funext i
    obtain ⟨R, j, rfl⟩ : ∃ (R : Fin 32768) (j : Fin 1024), i = ix2 R j := ⟨i 0, i 1, by funext a; fin_cases a <;> rfl⟩
    refine Eq.trans ?_ (final6 m c R j).symm
    unfold Cert.ReferenceFinalIdeal.Value.res_main_v41
    rw [h0, h1, h2, h3, h4, h5]
    pointwise
    rfl

end Cert.FinalValue
end
-- ==== Proof.Next.lean ====
module

public import proofs.«01_k».proof.Proof.Normed
public import proofs.«01_k».proof.Proof.Gen.KernelNextIdeal.Value
public import proofs.«01_k».proof.Proof.Gen.ReferenceNextIdeal.Run
public import Idealize.ShloMosaic.Lib.Pipeline.Value
public import Idealize.ShloMosaic.Lib.Quiescent
public import proofs.«01_k».proof.Defs

@[expose] public section

set_option maxRecDepth 16384

noncomputable section

namespace Cert.NextValue

open Idealize.ShloMosaic Idealize.ShloMosaic.TcCoe Idealize.SL.Sem
open Cert.KernelNextIdeal Cert.KernelNextIdeal.Gen Cert.Row
open Cert.NormedValue (hz2 hz3)

/-! The block's values are those of layer 0's call, whose payloads are the same terms. -/

theorem out_apply (x : FVec Ideal S512x1024 .f32) (g : FVec Ideal S1x1x1024 .f32) (A B : FVec Ideal S1x1024x2816 .bf16)
    (D : FVec Ideal S1x2816x1024 .bf16) (r : Fin 512) (j : Fin 1024) :
    k0_pay1 (F := Ideal) x (k0_pay3 x g A B D) (Scalar.ofBits .f32 0x3F000000#32) (ix2 r j) = ffn (fun k => x (ix2 r k)) (fun k => g (ix3 0 0 k))
      (fun k f => A (ix3 0 k f)) (fun k f => B (ix3 0 k f)) (fun f j => D (ix3 0 f j)) j :=
  Cert.NormedValue.out_apply x g A B D r j

theorem normed_apply (v w : FVec Ideal S512x1024 .f32) (q : Ideal .f32) (g : FVec Ideal S1x1x1024 .f32) (r : Fin 512) (j : Fin 1024) :
    k0_pay2 v w q g (ix2 r j) = rms (fun k => k0_pay1 v w q (ix2 r k)) (fun k => g (ix3 0 0 k)) j :=
  Cert.NormedValue.normed_apply v w q g r j

variable (m : (ℓ : Loc nD τ sig) → Buf (Elt Ideal) ℓ) (c : Dev nD)

/-! ## What the windows read -/

theorem V_gain : V m c main_v1 = shapeCast S2x1x1024 (m ((c : Thread nD τ).loc main_arg1)) shapeCasts_S2x1024_S2x1x1024 := by
  unfold V; after_results_simp; rfl
theorem V_post : V m c main_v0 = shapeCast S2x1x1024 (m ((c : Thread nD τ).loc main_arg5)) shapeCasts_S2x1024_S2x1x1024 := by
  unfold V; after_results_simp; rfl
theorem V_A : V m c main_v2 = m ((c : Thread nD τ).loc main_arg2) := by
  unfold V; after_results_simp; rfl
theorem V_B : V m c main_v3 = m ((c : Thread nD τ).loc main_arg3) := by
  unfold V; after_results_simp; rfl
theorem V_D : V m c main_v4 = m ((c : Thread nD τ).loc main_arg4) := by
  unfold V; after_results_simp; rfl

theorem idx0 : ∀ t : Fin cfg0.N, win0_0.index t 0 = t.val ∧ win0_0.index t 1 = 0 := by decide +kernel

theorem iblk0 (t : Fin cfg0.N) (r : Fin 512) (k : Fin 1024) (h : 512 * t.val + r.val < 32768) :
    iblk m c 0 t (ix2 r k) = m ((c : Thread nD τ).loc main_arg0) (ix2 ⟨512 * t.val + r.val, h⟩ k) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (t : Fin cfg0.N) (k : Fin 1024) :
    iblk m c 1 t (ix3 0 0 k) = m ((c : Thread nD τ).loc main_arg1) (ix2 1 k) := by
  unfold iblk
  rw [View.read_apply]
  have e : ((cfg0.win 1).blk t).view.emb (ix3 0 0 k) = ix3 1 0 k := by
    funext a
    apply Fin.ext
    match a with
    | ⟨0, _⟩ => rfl
    | ⟨1, _⟩ => rfl
    | ⟨2, _⟩ => show 0 * 1024 + 1 * k.val = k.val; omega
  refine (congrArg (V m c main_v1) e).trans ?_
  rw [V_gain]
  pointwise

theorem iblk2 (t : Fin cfg0.N) (k : Fin 1024) (f : Fin 2816) :
    iblk m c 2 t (ix3 0 k f) = m ((c : Thread nD τ).loc main_arg2) (ix3 1 k f) := by
  unfold iblk
  rw [View.read_apply]
  have e : ((cfg0.win 2).blk t).view.emb (ix3 0 k f) = ix3 1 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V m c main_v2) e).trans ?_
  rw [V_A]

theorem iblk3 (t : Fin cfg0.N) (k : Fin 1024) (f : Fin 2816) :
    iblk m c 3 t (ix3 0 k f) = m ((c : Thread nD τ).loc main_arg3) (ix3 1 k f) := by
  unfold iblk
  rw [View.read_apply]
  have e : ((cfg0.win 3).blk t).view.emb (ix3 0 k f) = ix3 1 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V m c main_v3) e).trans ?_
  rw [V_B]

theorem iblk4 (t : Fin cfg0.N) (f : Fin 2816) (k : Fin 1024) :
    iblk m c 4 t (ix3 0 f k) = m ((c : Thread nD τ).loc main_arg4) (ix3 1 f k) := by
  unfold iblk
  rw [View.read_apply]
  have e : ((cfg0.win 4).blk t).view.emb (ix3 0 f k) = ix3 1 f k := by
    funext a
    apply Fin.ext
    match a with
    | ⟨0, _⟩ => rfl
    | ⟨1, _⟩ => show 0 * 2816 + 1 * f.val = f.val; omega
    | ⟨2, _⟩ => show 0 * 1024 + 1 * k.val = k.val; omega
  refine (congrArg (V m c main_v4) e).trans ?_
  rw [V_D]

theorem iblk5 (t : Fin cfg0.N) (k : Fin 1024) :
    iblk m c 5 t (ix3 0 0 k) = m ((c : Thread nD τ).loc main_arg5) (ix2 1 k) := by
  unfold iblk
  rw [View.read_apply]
  have e : ((cfg0.win 5).blk t).view.emb (ix3 0 0 k) = ix3 1 0 k := by
    funext a
    apply Fin.ext
    match a with
    | ⟨0, _⟩ => rfl
    | ⟨1, _⟩ => rfl
    | ⟨2, _⟩ => show 0 * 1024 + 1 * k.val = k.val; omega
  refine (congrArg (V m c main_v0) e).trans ?_
  rw [V_post]
  pointwise

/-! ## What the kernel leaves -/

/-- The first result, as a function of the arguments: the feed-forward step of each row. -/
def out (R : Fin 32768) (j : Fin 1024) : EReal :=
  ffn (fun k => m ((c : Thread nD τ).loc main_arg0) (ix2 R k)) (fun k => m ((c : Thread nD τ).loc main_arg1) (ix2 1 k))
    (fun k f => m ((c : Thread nD τ).loc main_arg2) (ix3 1 k f)) (fun k f => m ((c : Thread nD τ).loc main_arg3) (ix3 1 k f))
    (fun f k => m ((c : Thread nD τ).loc main_arg4) (ix3 1 f k)) j

theorem pay4_block (t : Fin cfg0.N) (r : Fin 512) (j : Fin 1024) (h : 512 * t.val + r.val < 32768) :
    k0_pay1 (iblk m c 0 t) (k0_pay4 (iblk m c 0 t) (iblk m c 1 t) (iblk m c 2 t) (iblk m c 3 t) (iblk m c 4 t) (iblk m c 5 t))
      (Scalar.ofBits .f32 0x3F000000#32) (ix2 r j) = out m c ⟨512 * t.val + r.val, h⟩ j := by
  unfold k0_pay4
  simp only [View.ld_unit_zero (S := S512x1024) hz2, View.ld_unit_zero (S := S1x1x1024) hz3,
    View.ld_unit_zero (S := S1x1024x2816) hz3, View.ld_unit_zero (S := S1x2816x1024) hz3]
  refine (out_apply _ _ _ _ _ r j).trans ?_
  unfold out
  simp only [iblk0 m c t r _ h, iblk1, iblk2, iblk3, iblk4]

theorem row_split (R : Fin 32768) : ∃ (t : Fin cfg0.N) (r : Fin 512), 512 * t.val + r.val = R.val :=
  ⟨⟨R.val / 512, by rw [show cfg0.N = 64 from N_0]; omega⟩, ⟨R.val % 512, by omega⟩, by dsimp only; omega⟩

theorem idx6 : ∀ t : Fin cfg0.N, win0_6.index t 0 = t.val ∧ win0_6.index t 1 = 0 := by decide +kernel

theorem emb6 (t : Fin cfg0.N) (r : Fin 512) (j : Fin 1024) (h : 512 * t.val + r.val < 32768) :
    ((cfg0.win 6).blk t).view.emb (ix2 r j) = ix2 ⟨512 * t.val + r.val, h⟩ j := by
  funext a
  apply Fin.ext
  match a with
  | ⟨0, _⟩ => show win0_6.index t 0 * 512 + 1 * r.val = 512 * t.val + r.val; rw [(idx6 t).1]; omega
  | ⟨1, _⟩ => show win0_6.index t 1 * 1024 + 1 * j.val = j.val; rw [(idx6 t).2]; omega

theorem final6 (R : Fin 32768) (j : Fin 1024) : (dats m 0 c).arrAt 6 cfg0.N (ix2 R j) = out m c R j := by
  obtain ⟨t, r, h⟩ := row_split R
  have hR : R = ⟨512 * t.val + r.val, by omega⟩ := Fin.ext h.symm
  have b := congrFun (Value.blocks6 m c t (flush0_6 t)) (ix2 r j)
  rw [View.read_apply, emb6 t r j (by omega), ← hR] at b
  refine b.trans ?_
  rw [Value.flushed6]
  show out0_6 _ _ _ _ _ _ (ix2 r j) = _
  unfold out0_6
  rw [View.canon_unit_zero hz2]
  simp only [View.ld_unit_zero (S := S512x1024) hz2]
  rw [pay4_block m c t r j (by omega), ← hR]

/-- The second result: the normalised first one. -/
def outNormed (R : Fin 32768) (j : Fin 1024) : EReal :=
  rms (fun k => out m c R k) (fun k => m ((c : Thread nD τ).loc main_arg5) (ix2 1 k)) j

theorem idx7 : ∀ t : Fin cfg0.N, win0_7.index t 0 = t.val ∧ win0_7.index t 1 = 0 := by decide +kernel

theorem emb7 (t : Fin cfg0.N) (r : Fin 512) (j : Fin 1024) (h : 512 * t.val + r.val < 32768) :
    ((cfg0.win 7).blk t).view.emb (ix2 r j) = ix2 ⟨512 * t.val + r.val, h⟩ j := by
  funext a
  apply Fin.ext
  match a with
  | ⟨0, _⟩ => show win0_7.index t 0 * 512 + 1 * r.val = 512 * t.val + r.val; rw [(idx7 t).1]; omega
  | ⟨1, _⟩ => show win0_7.index t 1 * 1024 + 1 * j.val = j.val; rw [(idx7 t).2]; omega

theorem final7 (R : Fin 32768) (j : Fin 1024) : (dats m 0 c).arrAt 7 cfg0.N (ix2 R j) = outNormed m c R j := by
  obtain ⟨t, r, h⟩ := row_split R
  have hR : R = ⟨512 * t.val + r.val, by omega⟩ := Fin.ext h.symm
  have b := congrFun (Value.blocks7 m c t (flush0_7 t)) (ix2 r j)
  rw [View.read_apply, emb7 t r j (by omega), ← hR] at b
  refine b.trans ?_
  rw [Value.flushed7]
  show out0_7 _ _ _ _ _ _ (ix2 r j) = _
  unfold out0_7
  rw [View.canon_unit_zero hz2]
  simp only [View.ld_unit_zero (S := S512x1024) hz2, View.ld_unit_zero (S := S1x1x1024) hz3]
  refine (normed_apply _ _ _ _ r j).trans ?_
  unfold outNormed
  simp only [pay4_block m c t r _ (by omega), ← hR, iblk5]

/-! ## The reference, and the claim -/

theorem frame_ref [Cert.ReferenceNextIdeal.Facts] : Cert.quiescent_ReferenceNextIdeal := fun m ρ _ =>
  (θ_run Cert.ReferenceNextIdeal.defs _ _).mono
    (fun r h => ⟨fun c => (h c).2.2, Idealize.ShloMosaic.sem_eq_zero_of_no_sems (by decide) r.2⟩)
    (Cert.ReferenceNextIdeal.Value.run (F := Ideal) m ρ)

theorem algebraic : Cert.algebraic_KernelNextIdeal_ReferenceNextIdeal := by
  intro m ρ m' ρ' _ hagree
  refine ⟨fun c => (dats m 0 c).arrAt 6 cfg0.N, fun c => (dats m 0 c).arrAt 7 cfg0.N, Value.run_blocks m ρ, ?_⟩
  refine (θ_run Cert.ReferenceNextIdeal.defs _ _).mono (fun _ h c => ⟨(h c).1.trans ?_, (h c).2.1.trans ?_, (h c).2.2⟩)
    (Cert.ReferenceNextIdeal.Value.run (F := Ideal) m' ρ')
  · obtain ⟨h0, h1, h2, h3, h4, h5⟩ := hagree c
    funext i
    obtain ⟨R, j, rfl⟩ : ∃ (R : Fin 32768) (j : Fin 1024), i = ix2 R j := ⟨i 0, i 1, by funext a; fin_cases a <;> rfl⟩
    refine Eq.trans ?_ (final6 m c R j).symm
    rw [h0, h1, h2, h3, h4]
    pointwise
    rfl
  · obtain ⟨h0, h1, h2, h3, h4, h5⟩ := hagree c
    funext i
    obtain ⟨R, j, rfl⟩ : ∃ (R : Fin 32768) (j : Fin 1024), i = ix2 R j := ⟨i 0, i 1, by funext a; fin_cases a <;> rfl⟩
    refine Eq.trans ?_ (final7 m c R j).symm
    unfold Cert.ReferenceNextIdeal.Value.res_main_v44
    rw [h0, h1, h2, h3, h4, h5]
    pointwise
    rfl

end Cert.NextValue
end
-- ==== Proof.Seam.lean ====
/-
  The two calls between the mixers, one after the other. The first call's value is read at the array it leaves, the
  second call's at the array it finds there, so the second's row is the feed-forward step of the first's.
-/
module

public import proofs.«01_k».proof.Proof.Next
public import proofs.«01_k».proof.Proof.Plain
public import proofs.«01_k».proof.Proof.Gen.KernelSeamIdeal.Frame
public import proofs.«01_k».proof.Proof.Gen.ReferenceSeamIdeal.Run
public import Idealize.ShloMosaic.Lib.Pipeline.Value
public import Idealize.ShloMosaic.Lib.Quiescent
public import proofs.«01_k».proof.Defs

@[expose] public section

set_option maxRecDepth 16384

noncomputable section

namespace Cert.SeamValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelSeamIdeal Cert.KernelSeamIdeal.Gen Cert.Row
open Cert.NormedValue (hz2 hz3)

/-! ## The run, with every buffer's last contents -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer outside the calls' scopes at the contents the second call leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Run

/-! ## The two blocks' values -/

theorem plain_apply (x : FVec Ideal S512x1024 .f32) (g : FVec Ideal S1x1x1024 .f32) (A B : FVec Ideal S1x1024x2816 .bf16)
    (D : FVec Ideal S1x2816x1024 .bf16) (r : Fin 512) (j : Fin 1024) :
    k0_pay1 (F := Ideal) x (k0_pay2 x g A B D) (Scalar.ofBits .f32 0x3F000000#32) (ix2 r j) = ffn (fun k => x (ix2 r k)) (fun k => g (ix3 0 0 k))
      (fun k f => A (ix3 0 k f)) (fun k f => B (ix3 0 k f)) (fun f j => D (ix3 0 f j)) j :=
  Cert.PlainValue.out_apply x g A B D r j

/-- The second call passes its block through a cast of a shape to itself. -/
theorem pass (x : FVec Ideal S512x1024 .f32) : k1_pay3 x = x := by
  funext i
  obtain ⟨r, j, rfl⟩ : ∃ (r : Fin 512) (j : Fin 1024), i = ix2 r j := ⟨i 0, i 1, by funext a; fin_cases a <;> rfl⟩
  pointwise [k1_pay3]

theorem down_same (x : FVec Ideal S512x1024 .f32) (g : FVec Ideal S1x1x1024 .f32) (A B : FVec Ideal S1x1024x2816 .bf16)
    (D : FVec Ideal S1x2816x1024 .bf16) : k1_pay4 (F := Ideal) x g A B D = Cert.KernelNextIdeal.Gen.k0_pay3 x g A B D := by
  unfold k1_pay4
  simp only [pass]
  rfl

theorem next_apply (x : FVec Ideal S512x1024 .f32) (g : FVec Ideal S1x1x1024 .f32) (A B : FVec Ideal S1x1024x2816 .bf16)
    (D : FVec Ideal S1x2816x1024 .bf16) (r : Fin 512) (j : Fin 1024) :
    k1_pay1 (F := Ideal) (k1_pay3 x) (k1_pay4 x g A B D) (ix2 r j) = ffn (fun k => x (ix2 r k)) (fun k => g (ix3 0 0 k))
      (fun k f => A (ix3 0 k f)) (fun k f => B (ix3 0 k f)) (fun f j => D (ix3 0 f j)) j := by
  rw [pass, down_same]
  exact Cert.NextValue.out_apply x g A B D r j

theorem normed_apply (v w : FVec Ideal S512x1024 .f32) (g : FVec Ideal S1x1x1024 .f32) (r : Fin 512) (j : Fin 1024) :
    k1_pay2 v w g (ix2 r j) = rms (fun k => k1_pay1 v w (ix2 r k)) (fun k => g (ix3 0 0 k)) j :=
  Cert.NextValue.normed_apply v w (Scalar.ofBits .f32 0x3F000000#32) g r j

variable (m : (ℓ : Loc nD τ sig) → Buf (Elt Ideal) ℓ) (ρ : Dev nD → PrngReg) (c : Dev nD)

/-! ## Where the blocks lie, and what an array holds once its blocks are written -/

theorem row_split {n : Nat} (hn : n = 64) (R : Fin 32768) : ∃ (t : Fin n) (r : Fin 512), 512 * t.val + r.val = R.val :=
  ⟨⟨R.val / 512, by omega⟩, ⟨R.val % 512, by omega⟩, by dsimp only; omega⟩

theorem idx00 : ∀ t : Fin cfg0.N, win0_0.index t 0 = t.val ∧ win0_0.index t 1 = 0 := by decide +kernel
theorem idx06 : ∀ t : Fin cfg0.N, win0_6.index t 0 = t.val ∧ win0_6.index t 1 = 0 := by decide +kernel
theorem idx10 : ∀ t : Fin cfg1.N, win1_0.index t 0 = t.val ∧ win1_0.index t 1 = 0 := by decide +kernel
theorem idx16 : ∀ t : Fin cfg1.N, win1_6.index t 0 = t.val ∧ win1_6.index t 1 = 0 := by decide +kernel
theorem idx17 : ∀ t : Fin cfg1.N, win1_7.index t 0 = t.val ∧ win1_7.index t 1 = 0 := by decide +kernel

theorem emb00 (t : Fin cfg0.N) (r : Fin 512) (j : Fin 1024) (h : 512 * t.val + r.val < 32768) :
    ((cfg0.win 0).blk t).view.emb (ix2 r j) = ix2 ⟨512 * t.val + r.val, h⟩ j := by
  funext a
  apply Fin.ext
  match a with
  | ⟨0, _⟩ => show win0_0.index t 0 * 512 + 1 * r.val = 512 * t.val + r.val; rw [(idx00 t).1]; omega
  | ⟨1, _⟩ => show win0_0.index t 1 * 1024 + 1 * j.val = j.val; rw [(idx00 t).2]; omega

theorem emb06 (t : Fin cfg0.N) (r : Fin 512) (j : Fin 1024) (h : 512 * t.val + r.val < 32768) :
    ((cfg0.win 6).blk t).view.emb (ix2 r j) = ix2 ⟨512 * t.val + r.val, h⟩ j := by
  funext a
  apply Fin.ext
  match a with
  | ⟨0, _⟩ => show win0_6.index t 0 * 512 + 1 * r.val = 512 * t.val + r.val; rw [(idx06 t).1]; omega
  | ⟨1, _⟩ => show win0_6.index t 1 * 1024 + 1 * j.val = j.val; rw [(idx06 t).2]; omega

theorem emb10 (t : Fin cfg1.N) (r : Fin 512) (j : Fin 1024) (h : 512 * t.val + r.val < 32768) :
    ((cfg1.win 0).blk t).view.emb (ix2 r j) = ix2 ⟨512 * t.val + r.val, h⟩ j := by
  funext a
  apply Fin.ext
  match a with
  | ⟨0, _⟩ => show win1_0.index t 0 * 512 + 1 * r.val = 512 * t.val + r.val; rw [(idx10 t).1]; omega
  | ⟨1, _⟩ => show win1_0.index t 1 * 1024 + 1 * j.val = j.val; rw [(idx10 t).2]; omega

theorem emb16 (t : Fin cfg1.N) (r : Fin 512) (j : Fin 1024) (h : 512 * t.val + r.val < 32768) :
    ((cfg1.win 6).blk t).view.emb (ix2 r j) = ix2 ⟨512 * t.val + r.val, h⟩ j := by
  funext a
  apply Fin.ext
  match a with
  | ⟨0, _⟩ => show win1_6.index t 0 * 512 + 1 * r.val = 512 * t.val + r.val; rw [(idx16 t).1]; omega
  | ⟨1, _⟩ => show win1_6.index t 1 * 1024 + 1 * j.val = j.val; rw [(idx16 t).2]; omega

theorem emb17 (t : Fin cfg1.N) (r : Fin 512) (j : Fin 1024) (h : 512 * t.val + r.val < 32768) :
    ((cfg1.win 7).blk t).view.emb (ix2 r j) = ix2 ⟨512 * t.val + r.val, h⟩ j := by
  funext a
  apply Fin.ext
  match a with
  | ⟨0, _⟩ => show win1_7.index t 0 * 512 + 1 * r.val = 512 * t.val + r.val; rw [(idx17 t).1]; omega
  | ⟨1, _⟩ => show win1_7.index t 1 * 1024 + 1 * j.val = j.val; rw [(idx17 t).2]; omega

theorem inj06 : ∀ t t' : Fin cfg0.N, win0_6.index t = win0_6.index t' → t = t' :=
  fun t t' h => Fin.ext ((idx06 t).1.symm.trans ((congrFun h 0).trans (idx06 t').1))
theorem inj16 : ∀ t t' : Fin cfg1.N, win1_6.index t = win1_6.index t' → t = t' :=
  fun t t' h => Fin.ext ((idx16 t).1.symm.trans ((congrFun h 0).trans (idx16 t').1))
theorem inj17 : ∀ t t' : Fin cfg1.N, win1_7.index t = win1_7.index t' → t = t' :=
  fun t t' h => Fin.ext ((idx17 t).1.symm.trans ((congrFun h 0).trans (idx17 t').1))

/-! ## The first call -/

theorem V1_gain : V1 m ρ c main_v1 = shapeCast S2x1x1024 (m ((c : Thread nD τ).loc main_arg1)) shapeCasts_S2x1024_S2x1x1024 := by
  unfold V1 W1; after_results_simp; rfl
theorem V1_A : V1 m ρ c main_v2 = m ((c : Thread nD τ).loc main_arg2) := by
  unfold V1 W1; after_results_simp; rfl
theorem V1_B : V1 m ρ c main_v3 = m ((c : Thread nD τ).loc main_arg3) := by
  unfold V1 W1; after_results_simp; rfl
theorem V1_D : V1 m ρ c main_v4 = m ((c : Thread nD τ).loc main_arg4) := by
  unfold V1 W1; after_results_simp; rfl

theorem first0 (t : Fin cfg0.N) (r : Fin 512) (k : Fin 1024) (h : 512 * t.val + r.val < 32768) :
    iblk0 (V1 m ρ) c 0 t (ix2 r k) = m ((c : Thread nD τ).loc main_arg0) (ix2 ⟨512 * t.val + r.val, h⟩ k) := by
  unfold iblk0
  rw [View.read_apply]
  refine (congrArg (V1 m ρ c main_arg0) (emb00 t r k h)).trans ?_
  rw [show V1 m ρ c main_arg0 = m ((c : Thread nD τ).loc main_arg0) from W1_args m ρ c main_arg0 (by decide)]

theorem first1 (t : Fin cfg0.N) (k : Fin 1024) :
    iblk0 (V1 m ρ) c 1 t (ix3 0 0 k) = m ((c : Thread nD τ).loc main_arg1) (ix2 0 k) := by
  unfold iblk0
  rw [View.read_apply]
  have e : ((cfg0.win 1).blk t).view.emb (ix3 0 0 k) = ix3 0 0 k := by
    funext a
    apply Fin.ext
    match a with
    | ⟨0, _⟩ => rfl
    | ⟨1, _⟩ => rfl
    | ⟨2, _⟩ => show 0 * 1024 + 1 * k.val = k.val; omega
  refine (congrArg (V1 m ρ c main_v1) e).trans ?_
  rw [V1_gain]
  pointwise

theorem first2 (t : Fin cfg0.N) (k : Fin 1024) (f : Fin 2816) :
    iblk0 (V1 m ρ) c 2 t (ix3 0 k f) = m ((c : Thread nD τ).loc main_arg2) (ix3 0 k f) := by
  unfold iblk0
  rw [View.read_apply]
  have e : ((cfg0.win 2).blk t).view.emb (ix3 0 k f) = ix3 0 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V1 m ρ c main_v2) e).trans ?_
  rw [V1_A]

theorem first3 (t : Fin cfg0.N) (k : Fin 1024) (f : Fin 2816) :
    iblk0 (V1 m ρ) c 3 t (ix3 0 k f) = m ((c : Thread nD τ).loc main_arg3) (ix3 0 k f) := by
  unfold iblk0
  rw [View.read_apply]
  have e : ((cfg0.win 3).blk t).view.emb (ix3 0 k f) = ix3 0 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V1 m ρ c main_v3) e).trans ?_
  rw [V1_B]

theorem first4 (t : Fin cfg0.N) (f : Fin 2816) (k : Fin 1024) :
    iblk0 (V1 m ρ) c 4 t (ix3 0 f k) = m ((c : Thread nD τ).loc main_arg4) (ix3 0 f k) := by
  unfold iblk0
  rw [View.read_apply]
  have e : ((cfg0.win 4).blk t).view.emb (ix3 0 f k) = ix3 0 f k := by
    funext a
    apply Fin.ext
    match a with
    | ⟨0, _⟩ => rfl
    | ⟨1, _⟩ => show 0 * 2816 + 1 * f.val = f.val; omega
    | ⟨2, _⟩ => show 0 * 1024 + 1 * k.val = k.val; omega
  refine (congrArg (V1 m ρ c main_v4) e).trans ?_
  rw [V1_D]

/-- What the first call leaves: the feed-forward step of each row of the argument. -/
def mid (R : Fin 32768) (j : Fin 1024) : EReal :=
  ffn (fun k => m ((c : Thread nD τ).loc main_arg0) (ix2 R k)) (fun k => m ((c : Thread nD τ).loc main_arg1) (ix2 0 k))
    (fun k f => m ((c : Thread nD τ).loc main_arg2) (ix3 0 k f)) (fun k f => m ((c : Thread nD τ).loc main_arg3) (ix3 0 k f))
    (fun f k => m ((c : Thread nD τ).loc main_arg4) (ix3 0 f k)) j

theorem mid_block (t : Fin cfg0.N) (r : Fin 512) (j : Fin 1024) (h : 512 * t.val + r.val < 32768) :
    out0_6 (iblk0 (V1 m ρ) c 0 t) (iblk0 (V1 m ρ) c 1 t) (iblk0 (V1 m ρ) c 2 t) (iblk0 (V1 m ρ) c 3 t) (iblk0 (V1 m ρ) c 4 t)
      (iblk0 (V1 m ρ) c 5 t) (ix2 r j) = mid m c ⟨512 * t.val + r.val, h⟩ j := by
  unfold out0_6
  rw [View.canon_unit_zero hz2]
  simp only [View.ld_unit_zero (S := S512x1024) hz2, View.ld_unit_zero (S := S1x1x1024) hz3,
    View.ld_unit_zero (S := S1x1024x2816) hz3, View.ld_unit_zero (S := S1x2816x1024) hz3]
  refine (plain_apply _ _ _ _ _ r j).trans ?_
  unfold mid
  simp only [first0 m ρ c t r _ h, first1, first2, first3, first4]

theorem mid_final (R : Fin 32768) (j : Fin 1024) : (dat0 (V1 m ρ) c).arrAt 6 cfg0.N (ix2 R j) = mid m c R j := by
  obtain ⟨t, r, h⟩ := row_split N_0 R
  have hR : R = ⟨512 * t.val + r.val, by omega⟩ := Fin.ext h.symm
  have b := congrFun ((dat0 (V1 m ρ) c).read_blk_arrAt_eq_flushed 6
    (fun t t' _ _ hne => (cfg0.win 6).disjoint_blk fun h => hne (inj06 t t' h)) cfg0.N t t.isLt (flush0_6 t)) (ix2 r j)
  rw [View.read_apply, emb06 t r j (by omega), ← hR] at b
  refine b.trans ?_
  show (dat0 (V1 m ρ) c).after 6 t (ix2 r j) = _
  rw [after0_6]
  refine (mid_block m ρ c t r j (by omega)).trans ?_
  rw [← hR]

/-! ## The second call -/

theorem V3_x (R : Fin 32768) (j : Fin 1024) : V3 m ρ c main_v5 (ix2 R j) = mid m c R j := by
  rw [show V3 m ρ c main_v5 = (dat0 (V1 m ρ) c).arrAt 6 cfg0.N from
    (W3_of m ρ c main_v5 (by decide)).trans (W2_arr m ρ c 6)]
  exact mid_final m ρ c R j

theorem V3_gain : V3 m ρ c main_v7 = shapeCast S2x1x1024 (m ((c : Thread nD τ).loc main_arg5)) shapeCasts_S2x1024_S2x1x1024 := by
  rw [← W2_args m ρ c main_arg5 (by decide)]
  unfold V3 W3; after_results_simp; rfl
theorem V3_A : V3 m ρ c main_v8 = m ((c : Thread nD τ).loc main_arg6) := by
  rw [← W2_args m ρ c main_arg6 (by decide)]
  unfold V3 W3; after_results_simp; rfl
theorem V3_B : V3 m ρ c main_v9 = m ((c : Thread nD τ).loc main_arg7) := by
  rw [← W2_args m ρ c main_arg7 (by decide)]
  unfold V3 W3; after_results_simp; rfl
theorem V3_D : V3 m ρ c main_v10 = m ((c : Thread nD τ).loc main_arg8) := by
  rw [← W2_args m ρ c main_arg8 (by decide)]
  unfold V3 W3; after_results_simp; rfl
theorem V3_post : V3 m ρ c main_v6 = shapeCast S2x1x1024 (m ((c : Thread nD τ).loc main_arg10)) shapeCasts_S2x1024_S2x1x1024 := by
  rw [← W2_args m ρ c main_arg10 (by decide)]
  unfold V3 W3; after_results_simp; rfl

theorem second0 (t : Fin cfg1.N) (r : Fin 512) (k : Fin 1024) (h : 512 * t.val + r.val < 32768) :
    iblk1 (V3 m ρ) c 0 t (ix2 r k) = mid m c ⟨512 * t.val + r.val, h⟩ k := by
  unfold iblk1
  rw [View.read_apply]
  exact (congrArg (V3 m ρ c main_v5) (emb10 t r k h)).trans (V3_x m ρ c _ k)

theorem second1 (t : Fin cfg1.N) (k : Fin 1024) :
    iblk1 (V3 m ρ) c 1 t (ix3 0 0 k) = m ((c : Thread nD τ).loc main_arg5) (ix2 1 k) := by
  unfold iblk1
  rw [View.read_apply]
  have e : ((cfg1.win 1).blk t).view.emb (ix3 0 0 k) = ix3 1 0 k := by
    funext a
    apply Fin.ext
    match a with
    | ⟨0, _⟩ => rfl
    | ⟨1, _⟩ => rfl
    | ⟨2, _⟩ => show 0 * 1024 + 1 * k.val = k.val; omega
  refine (congrArg (V3 m ρ c main_v7) e).trans ?_
  rw [V3_gain]
  pointwise

theorem second2 (t : Fin cfg1.N) (k : Fin 1024) (f : Fin 2816) :
    iblk1 (V3 m ρ) c 2 t (ix3 0 k f) = m ((c : Thread nD τ).loc main_arg6) (ix3 1 k f) := by
  unfold iblk1
  rw [View.read_apply]
  have e : ((cfg1.win 2).blk t).view.emb (ix3 0 k f) = ix3 1 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V3 m ρ c main_v8) e).trans ?_
  rw [V3_A]

theorem second3 (t : Fin cfg1.N) (k : Fin 1024) (f : Fin 2816) :
    iblk1 (V3 m ρ) c 3 t (ix3 0 k f) = m ((c : Thread nD τ).loc main_arg7) (ix3 1 k f) := by
  unfold iblk1
  rw [View.read_apply]
  have e : ((cfg1.win 3).blk t).view.emb (ix3 0 k f) = ix3 1 k f := by
    funext a
    apply Fin.ext
    match a with
    | ⟨0, _⟩ => rfl
    | ⟨1, _⟩ => show 0 * 1024 + 1 * k.val = k.val; omega
    | ⟨2, _⟩ => show 0 * 2816 + 1 * f.val = f.val; omega
  refine (congrArg (V3 m ρ c main_v9) e).trans ?_
  rw [V3_B]

theorem second4 (t : Fin cfg1.N) (f : Fin 2816) (k : Fin 1024) :
    iblk1 (V3 m ρ) c 4 t (ix3 0 f k) = m ((c : Thread nD τ).loc main_arg8) (ix3 1 f k) := by
  unfold iblk1
  rw [View.read_apply]
  have e : ((cfg1.win 4).blk t).view.emb (ix3 0 f k) = ix3 1 f k := by
    funext a
    apply Fin.ext
    match a with
    | ⟨0, _⟩ => rfl
    | ⟨1, _⟩ => show 0 * 2816 + 1 * f.val = f.val; omega
    | ⟨2, _⟩ => show 0 * 1024 + 1 * k.val = k.val; omega
  refine (congrArg (V3 m ρ c main_v10) e).trans ?_
  rw [V3_D]

theorem second5 (t : Fin cfg1.N) (k : Fin 1024) :
    iblk1 (V3 m ρ) c 5 t (ix3 0 0 k) = m ((c : Thread nD τ).loc main_arg10) (ix2 1 k) := by
  unfold iblk1
  rw [View.read_apply]
  have e : ((cfg1.win 5).blk t).view.emb (ix3 0 0 k) = ix3 1 0 k := by
    funext a
    apply Fin.ext
    match a with
    | ⟨0, _⟩ => rfl
    | ⟨1, _⟩ => rfl
    | ⟨2, _⟩ => show 0 * 1024 + 1 * k.val = k.val; omega
  refine (congrArg (V3 m ρ c main_v6) e).trans ?_
  rw [V3_post]
  pointwise

/-- The first result: the feed-forward step, with the second call's weights, of each row the first call leaves. -/
def out (R : Fin 32768) (j : Fin 1024) : EReal :=
  ffn (fun k => mid m c R k) (fun k => m ((c : Thread nD τ).loc main_arg5) (ix2 1 k))
    (fun k f => m ((c : Thread nD τ).loc main_arg6) (ix3 1 k f)) (fun k f => m ((c : Thread nD τ).loc main_arg7) (ix3 1 k f))
    (fun f k => m ((c : Thread nD τ).loc main_arg8) (ix3 1 f k)) j

/-- The second result: the normalised first one. -/
def outNormed (R : Fin 32768) (j : Fin 1024) : EReal :=
  rms (fun k => out m c R k) (fun k => m ((c : Thread nD τ).loc main_arg10) (ix2 1 k)) j

theorem out_block (t : Fin cfg1.N) (r : Fin 512) (j : Fin 1024) (h : 512 * t.val + r.val < 32768) :
    k1_pay1 (k1_pay5 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t))
      (k1_pay6 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t))
      (ix2 r j) = out m c ⟨512 * t.val + r.val, h⟩ j := by
  unfold k1_pay5 k1_pay6
  simp only [View.ld_unit_zero (S := S512x1024) hz2, View.ld_unit_zero (S := S1x1x1024) hz3,
    View.ld_unit_zero (S := S1x1024x2816) hz3, View.ld_unit_zero (S := S1x2816x1024) hz3]
  refine (next_apply _ _ _ _ _ r j).trans ?_
  unfold out
  simp only [second0 m ρ c t r _ h, second1, second2, second3, second4]

theorem out_final (R : Fin 32768) (j : Fin 1024) : (dat1 (V3 m ρ) c).arrAt 6 cfg1.N (ix2 R j) = out m c R j := by
  obtain ⟨t, r, h⟩ := row_split N_1 R
  have hR : R = ⟨512 * t.val + r.val, by omega⟩ := Fin.ext h.symm
  have b := congrFun ((dat1 (V3 m ρ) c).read_blk_arrAt_eq_flushed 6
    (fun t t' _ _ hne => (cfg1.win 6).disjoint_blk fun h => hne (inj16 t t' h)) cfg1.N t t.isLt (flush1_6 t)) (ix2 r j)
  rw [View.read_apply, emb16 t r j (by omega), ← hR] at b
  refine b.trans ?_
  show (dat1 (V3 m ρ) c).after 6 t (ix2 r j) = _
  rw [after1_6]
  unfold out1_6
  rw [View.canon_unit_zero hz2]
  refine (out_block m ρ c t r j (by omega)).trans ?_
  rw [← hR]

theorem outNormed_final (R : Fin 32768) (j : Fin 1024) : (dat1 (V3 m ρ) c).arrAt 7 cfg1.N (ix2 R j) = outNormed m c R j := by
  obtain ⟨t, r, h⟩ := row_split N_1 R
  have hR : R = ⟨512 * t.val + r.val, by omega⟩ := Fin.ext h.symm
  have b := congrFun ((dat1 (V3 m ρ) c).read_blk_arrAt_eq_flushed 7
    (fun t t' _ _ hne => (cfg1.win 7).disjoint_blk fun h => hne (inj17 t t' h)) cfg1.N t t.isLt (flush1_7 t)) (ix2 r j)
  rw [View.read_apply, emb17 t r j (by omega), ← hR] at b
  refine b.trans ?_
  show (dat1 (V3 m ρ) c).after 7 t (ix2 r j) = _
  rw [after1_7]
  unfold out1_7
  rw [View.canon_unit_zero hz2]
  simp only [View.ld_unit_zero (S := S1x1x1024) hz3]
  refine (normed_apply _ _ _ r j).trans ?_
  unfold outNormed
  simp only [out_block m ρ c t r _ (by omega), ← hR, second5]

/-- The joined calls' run, read at the two results and the arguments. -/
theorem run_out : θ_run defs (onTc (τ := τ) (main (F := Ideal))) ⟨m, fun _ => 0, ρ⟩ (fun r => ∀ c : Dev nD,
      r.2.mem ((c.tc : Thread nD τ).loc main_v11_0) = (dat1 (V3 m ρ) c).arrAt 6 cfg1.N
      ∧ r.2.mem ((c.tc : Thread nD τ).loc main_v11_1) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (run_all m ρ)
  have kept : ∀ a ∈ argRefs, ¬ (Proc.devRef .tc a : DevRef τ sig).isScoped →
      r.2.mem ((c.tc : Thread nD τ).loc a) = m ((c.tc : Thread nD τ).loc a) :=
    fun a ha hs => (h c _ (mem_uc a hs)).trans (W4_args m ρ c a ha)
  exact ⟨(h c _ (mem_uc main_v11_0 (by decide))).trans (W4_arr m ρ c 6),
    (h c _ (mem_uc main_v11_1 (by decide))).trans (W4_arr m ρ c 7),
    kept main_arg0 (by decide) (by decide), kept main_arg1 (by decide) (by decide), kept main_arg2 (by decide) (by decide),
    kept main_arg3 (by decide) (by decide), kept main_arg4 (by decide) (by decide), kept main_arg5 (by decide) (by decide),
    kept main_arg6 (by decide) (by decide), kept main_arg7 (by decide) (by decide), kept main_arg8 (by decide) (by decide),
    kept main_arg9 (by decide) (by decide), kept main_arg10 (by decide) (by decide)⟩

/-! ## The reference, and the claim -/

section Ref
open Cert.ReferenceSeamIdeal.Value

variable (V0 : Valuation Cert.ReferenceSeamIdeal.τ Cert.ReferenceSeamIdeal.sig (Elt Ideal))

/-- The reference's rows between its two steps. -/
theorem ref_mid (R : Fin 32768) (j : Fin 1024) : res_main_v28 V0 (ix2 R j) =
    ffn (fun k => V0 (Proc.devRef .tc Cert.ReferenceSeamIdeal.main_arg0) (ix2 R k))
      (fun k => V0 (Proc.devRef .tc Cert.ReferenceSeamIdeal.main_arg1) (ix2 0 k))
      (fun k f => V0 (Proc.devRef .tc Cert.ReferenceSeamIdeal.main_arg2) (ix3 0 k f))
      (fun k f => V0 (Proc.devRef .tc Cert.ReferenceSeamIdeal.main_arg3) (ix3 0 k f))
      (fun f k => V0 (Proc.devRef .tc Cert.ReferenceSeamIdeal.main_arg4) (ix3 0 f k)) j := by
  unfold res_main_v28 res_main_v21 res_main_v14
  pointwise
  rfl

/-- Its first result, from those rows. -/
theorem ref_out (R : Fin 32768) (j : Fin 1024) : res_main_v57 V0 (ix2 R j) =
    ffn (fun k => res_main_v28 V0 (ix2 R k))
      (fun k => V0 (Proc.devRef .tc Cert.ReferenceSeamIdeal.main_arg5) (ix2 1 k))
      (fun k f => V0 (Proc.devRef .tc Cert.ReferenceSeamIdeal.main_arg6) (ix3 1 k f))
      (fun k f => V0 (Proc.devRef .tc Cert.ReferenceSeamIdeal.main_arg7) (ix3 1 k f))
      (fun f k => V0 (Proc.devRef .tc Cert.ReferenceSeamIdeal.main_arg8) (ix3 1 f k)) j := by
  unfold res_main_v57 res_main_v50 res_main_v43
  generalize res_main_v28 V0 = y
  pointwise
  rfl

end Ref

theorem frame_ref [Cert.ReferenceSeamIdeal.Facts] : Cert.quiescent_ReferenceSeamIdeal := fun m ρ _ =>
  (θ_run Cert.ReferenceSeamIdeal.defs _ _).mono
    (fun r h => ⟨fun c => (h c).2.2, Idealize.ShloMosaic.sem_eq_zero_of_no_sems (by decide) r.2⟩)
    (Cert.ReferenceSeamIdeal.Value.run (F := Ideal) m ρ)

theorem algebraic : Cert.algebraic_KernelSeamIdeal_ReferenceSeamIdeal := by
  intro m ρ m' ρ' _ hagree
  refine ⟨fun c => (dat1 (V3 m ρ) c).arrAt 6 cfg1.N, fun c => (dat1 (V3 m ρ) c).arrAt 7 cfg1.N, run_out m ρ, ?_⟩
  refine (θ_run Cert.ReferenceSeamIdeal.defs _ _).mono (fun _ h c => ?_)
    (Cert.ReferenceSeamIdeal.Value.run (F := Ideal) m' ρ')
  obtain ⟨h0, h1, h2, h3, h4, h5, h6, h7, h8, h9, h10⟩ := hagree c
  have key : ∀ (R : Fin 32768) (j : Fin 1024),
      Cert.ReferenceSeamIdeal.Value.res_main_v57 (StableHlo.launchContents m' c) (ix2 R j) = out m c R j := fun R j => by
    rw [ref_out]
    simp only [ref_mid]
    unfold out mid
    rw [← h0, ← h1, ← h2, ← h3, ← h4, ← h5, ← h6, ← h7, ← h8]
  refine ⟨(h c).1.trans ?_, (h c).2.1.trans ?_, (h c).2.2⟩
  · funext i
    obtain ⟨R, j, rfl⟩ : ∃ (R : Fin 32768) (j : Fin 1024), i = ix2 R j := ⟨i 0, i 1, by funext a; fin_cases a <;> rfl⟩
    exact (key R j).trans (out_final m ρ c R j).symm
  · funext i
    obtain ⟨R, j, rfl⟩ : ∃ (R : Fin 32768) (j : Fin 1024), i = ix2 R j := ⟨i 0, i 1, by funext a; fin_cases a <;> rfl⟩
    refine Eq.trans ?_ (outNormed_final m ρ c R j).symm
    unfold outNormed
    simp only [← key]
    rw [← h10]
    generalize Cert.ReferenceSeamIdeal.Value.res_main_v57 (StableHlo.launchContents m' c) = y
    pointwise
    rfl

end Cert.SeamValue
end
-- ==== Proof.lean ====
module

public import proofs.«01_k».proof.Defs
public import proofs.«01_k».proof.Proof.Gen.KernelMixer
public import proofs.«01_k».proof.Proof.Gen.KernelMixerIdeal
public import proofs.«01_k».proof.Proof.MixerFrame
public import proofs.«01_k».proof.Proof.MixerFrameIdeal
public import proofs.«01_k».proof.Proof.Gen.KernelNormed
public import proofs.«01_k».proof.Proof.Gen.KernelNormed.Skeleton
public import proofs.«01_k».proof.Proof.Gen.KernelNormed.Launch
public import proofs.«01_k».proof.Proof.Gen.KernelNormed.Points
public import proofs.«01_k».proof.Proof.Gen.KernelNormed.Frame
public import proofs.«01_k».proof.Proof.Gen.KernelNormedIdeal
public import proofs.«01_k».proof.Proof.Gen.KernelNormedIdeal.Skeleton
public import proofs.«01_k».proof.Proof.Gen.KernelNormedIdeal.Launch
public import proofs.«01_k».proof.Proof.Gen.KernelNormedIdeal.Points
public import proofs.«01_k».proof.Proof.Gen.KernelNormedIdeal.Frame
public import proofs.«01_k».proof.Proof.Gen.ReferenceNormedIdeal
public import proofs.«01_k».proof.Proof.Gen.KernelPlain
public import proofs.«01_k».proof.Proof.Gen.KernelPlain.Skeleton
public import proofs.«01_k».proof.Proof.Gen.KernelPlain.Launch
public import proofs.«01_k».proof.Proof.Gen.KernelPlain.Points
public import proofs.«01_k».proof.Proof.Gen.KernelPlain.Frame
public import proofs.«01_k».proof.Proof.Gen.KernelPlainIdeal
public import proofs.«01_k».proof.Proof.Gen.KernelPlainIdeal.Skeleton
public import proofs.«01_k».proof.Proof.Gen.KernelPlainIdeal.Launch
public import proofs.«01_k».proof.Proof.Gen.KernelPlainIdeal.Points
public import proofs.«01_k».proof.Proof.Gen.KernelPlainIdeal.Frame
public import proofs.«01_k».proof.Proof.Gen.ReferencePlainIdeal
public import proofs.«01_k».proof.Proof.Gen.KernelFinal
public import proofs.«01_k».proof.Proof.Gen.KernelFinal.Skeleton
public import proofs.«01_k».proof.Proof.Gen.KernelFinal.Launch
public import proofs.«01_k».proof.Proof.Gen.KernelFinal.Points
public import proofs.«01_k».proof.Proof.Gen.KernelFinal.Frame
public import proofs.«01_k».proof.Proof.Gen.KernelFinalIdeal
public import proofs.«01_k».proof.Proof.Gen.KernelFinalIdeal.Skeleton
public import proofs.«01_k».proof.Proof.Gen.KernelFinalIdeal.Launch
public import proofs.«01_k».proof.Proof.Gen.KernelFinalIdeal.Points
public import proofs.«01_k».proof.Proof.Gen.KernelFinalIdeal.Frame
public import proofs.«01_k».proof.Proof.Gen.ReferenceFinalIdeal
public import proofs.«01_k».proof.Proof.Gen.KernelNormedIdeal.Value
public import proofs.«01_k».proof.Proof.Gen.ReferenceNormedIdeal.Run
public import proofs.«01_k».proof.Proof.Gen.KernelPlainIdeal.Value
public import proofs.«01_k».proof.Proof.Gen.ReferencePlainIdeal.Run
public import proofs.«01_k».proof.Proof.Gen.KernelFinalIdeal.Value
public import proofs.«01_k».proof.Proof.Gen.ReferenceFinalIdeal.Run
public import proofs.«01_k».proof.Proof.Gen.KernelNext
public import proofs.«01_k».proof.Proof.Gen.KernelNext.Skeleton
public import proofs.«01_k».proof.Proof.Gen.KernelNext.Launch
public import proofs.«01_k».proof.Proof.Gen.KernelNext.Points
public import proofs.«01_k».proof.Proof.Gen.KernelNext.Frame
public import proofs.«01_k».proof.Proof.Gen.KernelNextIdeal
public import proofs.«01_k».proof.Proof.Gen.KernelNextIdeal.Skeleton
public import proofs.«01_k».proof.Proof.Gen.KernelNextIdeal.Launch
public import proofs.«01_k».proof.Proof.Gen.KernelNextIdeal.Points
public import proofs.«01_k».proof.Proof.Gen.KernelNextIdeal.Frame
public import proofs.«01_k».proof.Proof.Gen.KernelNextIdeal.Value
public import proofs.«01_k».proof.Proof.Gen.ReferenceNextIdeal
public import proofs.«01_k».proof.Proof.Gen.ReferenceNextIdeal.Run
public import proofs.«01_k».proof.Proof.Gen.KernelSeam
public import proofs.«01_k».proof.Proof.Gen.KernelSeam.Skeleton
public import proofs.«01_k».proof.Proof.Gen.KernelSeam.Launch
public import proofs.«01_k».proof.Proof.Gen.KernelSeam.Points
public import proofs.«01_k».proof.Proof.Gen.KernelSeam.Frame
public import proofs.«01_k».proof.Proof.Gen.KernelSeamIdeal
public import proofs.«01_k».proof.Proof.Gen.KernelSeamIdeal.Skeleton
public import proofs.«01_k».proof.Proof.Gen.KernelSeamIdeal.Launch
public import proofs.«01_k».proof.Proof.Gen.KernelSeamIdeal.Points
public import proofs.«01_k».proof.Proof.Gen.KernelSeamIdeal.Frame
public import proofs.«01_k».proof.Proof.Gen.ReferenceSeamIdeal
public import proofs.«01_k».proof.Proof.Gen.ReferenceSeamIdeal.Run
public import proofs.«01_k».proof.Proof.Normed
public import proofs.«01_k».proof.Proof.Plain
public import proofs.«01_k».proof.Proof.Final
public import proofs.«01_k».proof.Proof.Next
public import proofs.«01_k».proof.Proof.Seam
public import Idealize.ShloMosaic.Adequacy
public import Idealize.ShloMosaic.Init

@[expose] public section

noncomputable section

namespace Cert.Proof

open Idealize.ShloMosaic Idealize.SL.Sem Cert.KernelNormed

theorem claim : Cert.Claim := ⟨Cert.KernelMixer.Gen.facts, Cert.KernelMixerIdeal.Gen.facts, Cert.KernelNormed.Gen.facts, Cert.KernelNormedIdeal.Gen.facts, Cert.ReferenceNormedIdeal.Gen.facts, Cert.KernelPlain.Gen.facts, Cert.KernelPlainIdeal.Gen.facts, Cert.ReferencePlainIdeal.Gen.facts, Cert.KernelFinal.Gen.facts, Cert.KernelFinalIdeal.Gen.facts, Cert.ReferenceFinalIdeal.Gen.facts, Cert.KernelNext.Gen.facts, Cert.KernelNextIdeal.Gen.facts, Cert.ReferenceNextIdeal.Gen.facts, Cert.KernelSeam.Gen.facts, Cert.KernelSeamIdeal.Gen.facts, Cert.ReferenceSeamIdeal.Gen.facts,
  fun m ρ _ => Cert.MixerFrame.frame m ρ, fun m ρ _ => Cert.MixerFrameIdeal.frame m ρ,
  fun m ρ _ => Cert.KernelNormed.Gen.frame m ρ, fun m ρ _ => Cert.KernelNormedIdeal.Gen.frame m ρ, Cert.NormedValue.frame_ref,
  fun m ρ _ => Cert.KernelPlain.Gen.frame m ρ, fun m ρ _ => Cert.KernelPlainIdeal.Gen.frame m ρ, Cert.PlainValue.frame_ref,
  fun m ρ _ => Cert.KernelFinal.Gen.frame m ρ, fun m ρ _ => Cert.KernelFinalIdeal.Gen.frame m ρ, Cert.FinalValue.frame_ref,
  fun m ρ _ => Cert.KernelNext.Gen.frame m ρ, fun m ρ _ => Cert.KernelNextIdeal.Gen.frame m ρ, Cert.NextValue.frame_ref,
  fun m ρ _ => Cert.KernelSeam.Gen.frame m ρ, fun m ρ _ => Cert.KernelSeamIdeal.Gen.frame m ρ, Cert.SeamValue.frame_ref,
  trivial, trivial, Cert.NormedValue.algebraic, trivial, Cert.PlainValue.algebraic, trivial, Cert.FinalValue.algebraic, trivial, Cert.NextValue.algebraic, trivial, Cert.SeamValue.algebraic⟩

end Cert.Proof

end
